-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_sorted [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ids_sorted [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_ids_sorted [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_sorted : Cert.Pre_ids_sorted.Facts),
    quiescent_Kernel (hKernel := hKernel)
    ∧ quiescent_KernelIdeal (hKernelIdeal := hKernelIdeal)
    ∧ quiescent_KernelIdeal_pre_ids_sorted (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal_pre_ids_sorted (hKernelIdeal := hKernelIdeal) (hReferenceIdeal := hReferenceIdeal) (hPre_ids_sorted := hPre_ids_sorted)
-- ==== Pre_ids_sorted.lean ====
abbrev S2x3072x32000 : Shape := ⟨3, ![2, 3072, 32000]⟩
abbrev S2x3072x50 : Shape := ⟨3, ![2, 3072, 50]⟩
abbrev S2x3072x4096 : Shape := ⟨3, ![2, 3072, 4096]⟩
abbrev S2x3072 : Shape := ⟨2, ![2, 3072]⟩
abbrev S6144x4096 : Shape := ⟨2, ![6144, 4096]⟩
abbrev S6144 : Shape := ⟨1, ![6144]⟩
abbrev S32000x4096 : Shape := ⟨2, ![32000, 4096]⟩
abbrev S6143 : Shape := ⟨1, ![6143]⟩
abbrev S_ : Shape := ⟨0, ![]⟩

class Facts : Prop where
  slices_S6144_S6143_0 : S6144.Slices ![0] S6143
  slices_S6144_S6143_1 : S6144.Slices ![1] S6143
  reducesTo_S6143_S_d0 : S6143.ReducesTo [0] S_
  h_S_ : 0 < S_.numel

variable [Facts]

def fn {F : FTy → Type} [FloatOps F] (main_arg0 : FVec F S2x3072x32000 .fp8e5m2) (main_arg1 : FVec F S2x3072x50 .f32) (main_arg2 : FVec F S2x3072x4096 .fp8e4m3) (main_arg3 : FVec F S2x3072 .f32) (main_arg4 : FVec F S6144x4096 .fp8e5m2) (main_arg5 : FVec F S6144 .f32) (main_arg6 : IVec S6144 32) (main_arg7 : FVec F S32000x4096 .f32) : IVec S_ 1 :=
  let main_v0 : IVec S6143 32 := (extractStridedSlice S6143 ![0] · slices_S6144_S6143_0) main_arg6
  let main_v1 : IVec S6143 32 := (extractStridedSlice S6143 ![1] · slices_S6144_S6143_1) main_arg6
  let main_v2 : IVec S6143 1 := cmpi .sle main_v0 main_v1
  let main_c : IVec S_ 1 := constantI S_ 1 1#1
  let main_v3 : IVec S_ 1 := (fun x v => Host.reduce IntOp.andi x v reducesTo_S6143_S_d0 h_S_) main_v2 main_c
  main_v3
-- ==== Kernel.lean ====
abbrev S2x3072x32000 : Shape := ⟨3, ![2, 3072, 32000]⟩
abbrev S2x3072x50 : Shape := ⟨3, ![2, 3072, 50]⟩
abbrev S2x3072x4096 : Shape := ⟨3, ![2, 3072, 4096]⟩
abbrev S2x3072 : Shape := ⟨2, ![2, 3072]⟩
abbrev S6144x4096 : Shape := ⟨2, ![6144, 4096]⟩
abbrev S6144 : Shape := ⟨1, ![6144]⟩
abbrev S32000x4096 : Shape := ⟨2, ![32000, 4096]⟩
abbrev S6144x32000 : Shape := ⟨2, ![6144, 32000]⟩
abbrev S6144x50 : Shape := ⟨2, ![6144, 50]⟩
abbrev S50x6144 : Shape := ⟨2, ![50, 6144]⟩
abbrev S1x6144 : Shape := ⟨2, ![1, 6144]⟩
abbrev S126 : Shape := ⟨1, ![126]⟩
abbrev S_ : Shape := ⟨0, ![]⟩
abbrev S126x1 : Shape := ⟨2, ![126, 1]⟩
abbrev S126x6144 : Shape := ⟨2, ![126, 6144]⟩
abbrev S6144x256 : Shape := ⟨2, ![6144, 256]⟩
abbrev S256x4096 : Shape := ⟨2, ![256, 4096]⟩
abbrev S256x6144 : Shape := ⟨2, ![256, 6144]⟩
abbrev S256x128 : Shape := ⟨2, ![256, 128]⟩
abbrev S128x256 : Shape := ⟨2, ![128, 256]⟩
abbrev S1x256 : Shape := ⟨2, ![1, 256]⟩
abbrev S256x512 : Shape := ⟨2, ![256, 512]⟩
abbrev S6144x512 : Shape := ⟨2, ![6144, 512]⟩
abbrev S1 : Shape := ⟨1, ![1]⟩
abbrev S256x256 : Shape := ⟨2, ![256, 256]⟩

abbrev nBuf : Space → Nat
  | .hbm => 27
  | .vmem => 13
  | .smem => 1
  | _ => 0

abbrev bufTy : (tb : Table) → Fin (tcTables nBuf tb) → BufTy
  | .hbm, ⟨0, _⟩ => ⟨S2x3072x32000, .fp8e5m2⟩
  | .hbm, ⟨1, _⟩ => ⟨S2x3072x50, .f32⟩
  | .hbm, ⟨2, _⟩ => ⟨S2x3072x4096, .fp8e4m3⟩
  | .hbm, ⟨3, _⟩ => ⟨S2x3072, .f32⟩
  | .hbm, ⟨4, _⟩ => ⟨S6144x4096, .fp8e5m2⟩
  | .hbm, ⟨5, _⟩ => ⟨S6144, .f32⟩
  | .hbm, ⟨6, _⟩ => ⟨S6144, .i32⟩
  | .hbm, ⟨7, _⟩ => ⟨S32000x4096, .f32⟩
  | .hbm, ⟨8, _⟩ => ⟨S6144x32000, .fp8e5m2⟩
  | .hbm, ⟨9, _⟩ => ⟨S6144x50, .f32⟩
  | .hbm, ⟨10, _⟩ => ⟨S50x6144, .f32⟩
  | .hbm, ⟨11, _⟩ => ⟨S1x6144, .f32⟩
  | .hbm, ⟨12, _⟩ => ⟨S6144x4096, .fp8e4m3⟩
  | .hbm, ⟨13, _⟩ => ⟨S126, .i32⟩
  | .hbm, ⟨14, _⟩ => ⟨S_, .i32⟩
  | .hbm, ⟨15, _⟩ => ⟨S126, .i32⟩
  | .hbm, ⟨16, _⟩ => ⟨S126, .i32⟩
  | .hbm, ⟨17, _⟩ => ⟨S1x6144, .i32⟩
  | .hbm, ⟨18, _⟩ => ⟨S126x1, .i32⟩
  | .hbm, ⟨19, _⟩ => ⟨S126x6144, .i32⟩
  | .hbm, ⟨20, _⟩ => ⟨S126x6144, .i32⟩
  | .hbm, ⟨21, _⟩ => ⟨S126x6144, .i1⟩
  | .hbm, ⟨22, _⟩ => ⟨S126x6144, .i32⟩
  | .hbm, ⟨23, _⟩ => ⟨S_, .i32⟩
  | .hbm, ⟨24, _⟩ => ⟨S1x6144, .f32⟩
  | .hbm, ⟨25, _⟩ => ⟨S1x6144, .i32⟩
  | .hbm, ⟨26, _⟩ => ⟨S32000x4096, .f32⟩
  | .local _ .vmem, ⟨0, _⟩ => ⟨S6144x256, .fp8e5m2⟩
  | .local _ .vmem, ⟨1, _⟩ => ⟨S6144x256, .fp8e5m2⟩
  | .local _ .vmem, ⟨2, _⟩ => ⟨S50x6144, .f32⟩
  | .local _ .vmem, ⟨3, _⟩ => ⟨S1x6144, .f32⟩
  | .local _ .vmem, ⟨4, _⟩ => ⟨S6144x4096, .fp8e4m3⟩
  | .local _ .vmem, ⟨5, _⟩ => ⟨S1x6144, .f32⟩
  | .local _ .vmem, ⟨6, _⟩ => ⟨S1x6144, .i32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x6144, .bf16⟩
  | .local _ .vmem, ⟨12, _⟩ => ⟨S256x4096, .fp8e5m2⟩
  | .local _ .smem, ⟨0, _⟩ => ⟨S126, .i32⟩
  | _, _ => ⟨S2x3072x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let c2_i32 : BitVec 32 := 2#32
  let v2 : BitVec 32 := Scalar.muli arg0 c2_i32
  let v3 : BitVec 32 := Scalar.addi v2 c0_i32
  let c5_i32 : BitVec 32 := 5#32
  let v4 : BitVec 32 := Scalar.divsi v3 c5_i32
  let v5 : Index := Scalar.indexCast v4
  let c0_1 : Index := 0#32
  ![v5.toNat, 0]
def k0_off2 (i : grid0.Coords) : Fin 1 → Nat :=
  let arg0 : BitVec 32 := BitVec.ofNat 32 (i 0).val
  let v744 : Index := Scalar.indexCast arg0
  ![v744.toNat]
def k0_off3 (i : grid0.Coords) : Fin 1 → Nat :=
  let arg0 : BitVec 32 := BitVec.ofNat 32 (i 0).val
  let c1_i32_244 : BitVec 32 := 1#32
  let v746 : BitVec 32 := Scalar.addi arg0 c1_i32_244
  let v747 : Index := Scalar.indexCast v746
  ![v747.toNat]
@[reducible] def k0_t1_loop (v745 : BitVec 32) (v748 : BitVec 32) : Scf.Loop 32 :=
  let c0_i32_261 : BitVec 32 := 0#32
  let c0_i32_245 : BitVec 32 := 0#32
  let v750 : BitVec 1 := Scalar.cmpi .sgt v745 c0_i32_245
  let v751 : BitVec 32 := Scalar.extui v750
  let c0_i32_246 : BitVec 32 := 0#32
  let v752 : BitVec 1 := Scalar.cmpi .slt v745 c0_i32_246
  let v753 : BitVec 32 := Scalar.extui v752
  let v754 : BitVec 32 := Scalar.subi v751 v753
  let c128_i32 : BitVec 32 := 128#32
  let c0_i32_247 : BitVec 32 := 0#32
  let v755 : BitVec 1 := Scalar.cmpi .sgt c128_i32 c0_i32_247
  let v756 : BitVec 32 := Scalar.extui v755
  let c0_i32_248 : BitVec 32 := 0#32
  let v757 : BitVec 1 := Scalar.cmpi .slt c128_i32 c0_i32_248
  let v758 : BitVec 32 := Scalar.extui v757
  let v759 : BitVec 32 := Scalar.subi v756 v758
  let v760 : BitVec 1 := Scalar.cmpi .ne v754 v759
  let v761 : BitVec 32 := Scalar.remsi v745 c128_i32
  let c0_i32_249 : BitVec 32 := 0#32
  let v762 : BitVec 1 := Scalar.cmpi .ne v761 c0_i32_249
  let v763 : BitVec 1 := Scalar.andi v760 v762
  let v749 : BitVec 32 := Scalar.divsi v745 c128_i32
  let c1_i32_250 : BitVec 32 := 1#32
  let v764 : BitVec 32 := Scalar.subi v749 c1_i32_250
  let v765 : BitVec 32 := Scalar.select v763 v764 v749
  let c128_i32_251 : BitVec 32 := 128#32
  let v766 : BitVec 32 := Scalar.muli v765 c128_i32_251
  let v767 : BitVec 32 := Scalar.subi v748 v766
  let c256_i32 : BitVec 32 := 256#32
  let v768 : BitVec 32 := Scalar.addi v767 c256_i32
  let c1_i32_252 : BitVec 32 := 1#32
  let v769 : BitVec 32 := Scalar.subi v768 c1_i32_252
  let c0_i32_254 : BitVec 32 := 0#32
  let v771 : BitVec 1 := Scalar.cmpi .sgt v769 c0_i32_254
  let v772 : BitVec 32 := Scalar.extui v771
  let c0_i32_255 : BitVec 32 := 0#32
  let v773 : BitVec 1 := Scalar.cmpi .slt v769 c0_i32_255
  let v774 : BitVec 32 := Scalar.extui v773
  let v775 : BitVec 32 := Scalar.subi v772 v774
  let c256_i32_253 : BitVec 32 := 256#32
  let c0_i32_256 : BitVec 32 := 0#32
  let v776 : BitVec 1 := Scalar.cmpi .sgt c256_i32_253 c0_i32_256
  let v777 : BitVec 32 := Scalar.extui v776
  let c0_i32_257 : BitVec 32 := 0#32
  let v778 : BitVec 1 := Scalar.cmpi .slt c256_i32_253 c0_i32_257
  let v779 : BitVec 32 := Scalar.extui v778
  let v780 : BitVec 32 := Scalar.subi v777 v779
  let v781 : BitVec 1 := Scalar.cmpi .ne v775 v780
  let v782 : BitVec 32 := Scalar.remsi v769 c256_i32_253
  let c0_i32_258 : BitVec 32 := 0#32
  let v783 : BitVec 1 := Scalar.cmpi .ne v782 c0_i32_258
  let v784 : BitVec 1 := Scalar.andi v781 v783
  let v770 : BitVec 32 := Scalar.divsi v769 c256_i32_253
  let c1_i32_259 : BitVec 32 := 1#32
  let v785 : BitVec 32 := Scalar.subi v770 c1_i32_259
  let v786 : BitVec 32 := Scalar.select v784 v785 v770
  let v787 : BitVec 32 := Scalar.subi v786 c0_i32_261
  let c1_i32_262 : BitVec 32 := 1#32
  let v789 : BitVec 32 := Scalar.divsi v787 c1_i32_262
  let v790 : BitVec 32 := Scalar.muli v789 c1_i32_262
  let v791 : BitVec 32 := Scalar.addi c0_i32_261 v790
  let c1_i32_263 : BitVec 32 := 1#32
  ⟨c0_i32_261, v791, c1_i32_263⟩

def k0_mult1 (v745 : BitVec 32) (v748 : BitVec 32) (k0_t1 : Fin (k0_t1_loop v745 v748).trips) : BitVec 32 :=
  let c0_i32_245 : BitVec 32 := 0#32
  let v750 : BitVec 1 := Scalar.cmpi .sgt v745 c0_i32_245
  let v751 : BitVec 32 := Scalar.extui v750
  let c0_i32_246 : BitVec 32 := 0#32
  let v752 : BitVec 1 := Scalar.cmpi .slt v745 c0_i32_246
  let v753 : BitVec 32 := Scalar.extui v752
  let v754 : BitVec 32 := Scalar.subi v751 v753
  let c128_i32 : BitVec 32 := 128#32
  let c0_i32_247 : BitVec 32 := 0#32
  let v755 : BitVec 1 := Scalar.cmpi .sgt c128_i32 c0_i32_247
  let v756 : BitVec 32 := Scalar.extui v755
  let c0_i32_248 : BitVec 32 := 0#32
  let v757 : BitVec 1 := Scalar.cmpi .slt c128_i32 c0_i32_248
  let v758 : BitVec 32 := Scalar.extui v757
  let v759 : BitVec 32 := Scalar.subi v756 v758
  let v760 : BitVec 1 := Scalar.cmpi .ne v754 v759
  let v761 : BitVec 32 := Scalar.remsi v745 c128_i32
  let c0_i32_249 : BitVec 32 := 0#32
  let v762 : BitVec 1 := Scalar.cmpi .ne v761 c0_i32_249
  let v763 : BitVec 1 := Scalar.andi v760 v762
  let v749 : BitVec 32 := Scalar.divsi v745 c128_i32
  let c1_i32_250 : BitVec 32 := 1#32
  let v764 : BitVec 32 := Scalar.subi v749 c1_i32_250
  let v765 : BitVec 32 := Scalar.select v763 v764 v749
  let c128_i32_251 : BitVec 32 := 128#32
  let v766 : BitVec 32 := Scalar.muli v765 c128_i32_251
  let c0_i32_261 : BitVec 32 := 0#32
  let c1_i32_263 : BitVec 32 := 1#32
  let arg14 : BitVec 32 := Scf.iv c0_i32_261 c1_i32_263 k0_t1
  let c256_i32_265 : BitVec 32 := 256#32
  let v792 : BitVec 32 := Scalar.muli arg14 c256_i32_265
  let v793 : BitVec 32 := Scalar.addi v766 v792
  let c5888_i32 : BitVec 32 := 5888#32
  let v794 : BitVec 32 := Scalar.minsi v793 c5888_i32
  v794
def k0_off4 (v745 : BitVec 32) (v748 : BitVec 32) (k0_t1 : Fin (k0_t1_loop v745 v748).trips) : Fin 2 → Nat :=
  let c0_i32_245 : BitVec 32 := 0#32
  let v750 : BitVec 1 := Scalar.cmpi .sgt v745 c0_i32_245
  let v751 : BitVec 32 := Scalar.extui v750
  let c0_i32_246 : BitVec 32 := 0#32
  let v752 : BitVec 1 := Scalar.cmpi .slt v745 c0_i32_246
  let v753 : BitVec 32 := Scalar.extui v752
  let v754 : BitVec 32 := Scalar.subi v751 v753
  let c128_i32 : BitVec 32 := 128#32
  let c0_i32_247 : BitVec 32 := 0#32
  let v755 : BitVec 1 := Scalar.cmpi .sgt c128_i32 c0_i32_247
  let v756 : BitVec 32 := Scalar.extui v755
  let c0_i32_248 : BitVec 32 := 0#32
  let v757 : BitVec 1 := Scalar.cmpi .slt c128_i32 c0_i32_248
  let v758 : BitVec 32 := Scalar.extui v757
  let v759 : BitVec 32 := Scalar.subi v756 v758
  let v760 : BitVec 1 := Scalar.cmpi .ne v754 v759
  let v761 : BitVec 32 := Scalar.remsi v745 c128_i32
  let c0_i32_249 : BitVec 32 := 0#32
  let v762 : BitVec 1 := Scalar.cmpi .ne v761 c0_i32_249
  let v763 : BitVec 1 := Scalar.andi v760 v762
  let v749 : BitVec 32 := Scalar.divsi v745 c128_i32
  let c1_i32_250 : BitVec 32 := 1#32
  let v764 : BitVec 32 := Scalar.subi v749 c1_i32_250
  let v765 : BitVec 32 := Scalar.select v763 v764 v749
  let c128_i32_251 : BitVec 32 := 128#32
  let v766 : BitVec 32 := Scalar.muli v765 c128_i32_251
  let c0_i32_261 : BitVec 32 := 0#32
  let c1_i32_263 : BitVec 32 := 1#32
  let arg14 : BitVec 32 := Scf.iv c0_i32_261 c1_i32_263 k0_t1
  let c256_i32_265 : BitVec 32 := 256#32
  let v792 : BitVec 32 := Scalar.muli arg14 c256_i32_265
  let v793 : BitVec 32 := Scalar.addi v766 v792
  let c5888_i32 : BitVec 32 := 5888#32
  let v794 : BitVec 32 := Scalar.minsi v793 c5888_i32
  let v795 : BitVec 32 := v794
  let c0_i32_266 : BitVec 32 := 0#32
  ![v795.toNat, 0]
def k0_off5 (v745 : BitVec 32) (v748 : BitVec 32) (k0_t1 : Fin (k0_t1_loop v745 v748).trips) : Fin 2 → Nat :=
  let c0_267 : Index := 0#32
  let c0_i32_245 : BitVec 32 := 0#32
  let v750 : BitVec 1 := Scalar.cmpi .sgt v745 c0_i32_245
  let v751 : BitVec 32 := Scalar.extui v750
  let c0_i32_246 : BitVec 32 := 0#32
  let v752 : BitVec 1 := Scalar.cmpi .slt v745 c0_i32_246
  let v753 : BitVec 32 := Scalar.extui v752
  let v754 : BitVec 32 := Scalar.subi v751 v753
  let c128_i32 : BitVec 32 := 128#32
  let c0_i32_247 : BitVec 32 := 0#32
  let v755 : BitVec 1 := Scalar.cmpi .sgt c128_i32 c0_i32_247
  let v756 : BitVec 32 := Scalar.extui v755
  let c0_i32_248 : BitVec 32 := 0#32
  let v757 : BitVec 1 := Scalar.cmpi .slt c128_i32 c0_i32_248
  let v758 : BitVec 32 := Scalar.extui v757
  let v759 : BitVec 32 := Scalar.subi v756 v758
  let v760 : BitVec 1 := Scalar.cmpi .ne v754 v759
  let v761 : BitVec 32 := Scalar.remsi v745 c128_i32
  let c0_i32_249 : BitVec 32 := 0#32
  let v762 : BitVec 1 := Scalar.cmpi .ne v761 c0_i32_249
  let v763 : BitVec 1 := Scalar.andi v760 v762
  let v749 : BitVec 32 := Scalar.divsi v745 c128_i32
  let c1_i32_250 : BitVec 32 := 1#32
  let v764 : BitVec 32 := Scalar.subi v749 c1_i32_250
  let v765 : BitVec 32 := Scalar.select v763 v764 v749
  let c128_i32_251 : BitVec 32 := 128#32
  let v766 : BitVec 32 := Scalar.muli v765 c128_i32_251
  let c0_i32_261 : BitVec 32 := 0#32
  let c1_i32_263 : BitVec 32 := 1#32
  let arg14 : BitVec 32 := Scf.iv c0_i32_261 c1_i32_263 k0_t1
  let c256_i32_265 : BitVec 32 := 256#32
  let v792 : BitVec 32 := Scalar.muli arg14 c256_i32_265
  let v793 : BitVec 32 := Scalar.addi v766 v792
  let c5888_i32 : BitVec 32 := 5888#32
  let v794 : BitVec 32 := Scalar.minsi v793 c5888_i32
  let v795 : BitVec 32 := v794
  let v797 : Index := Scalar.indexCast v795
  ![0, v797.toNat]
@[reducible] def k0_t2_loop (v745 : BitVec 32) (v748 : BitVec 32) : Scf.Loop 32 :=
  let c0_i32_261 : BitVec 32 := 0#32
  let c0_i32_245 : BitVec 32 := 0#32
  let v750 : BitVec 1 := Scalar.cmpi .sgt v745 c0_i32_245
  let v751 : BitVec 32 := Scalar.extui v750
  let c0_i32_246 : BitVec 32 := 0#32
  let v752 : BitVec 1 := Scalar.cmpi .slt v745 c0_i32_246
  let v753 : BitVec 32 := Scalar.extui v752
  let v754 : BitVec 32 := Scalar.subi v751 v753
  let c128_i32 : BitVec 32 := 128#32
  let c0_i32_247 : BitVec 32 := 0#32
  let v755 : BitVec 1 := Scalar.cmpi .sgt c128_i32 c0_i32_247
  let v756 : BitVec 32 := Scalar.extui v755
  let c0_i32_248 : BitVec 32 := 0#32
  let v757 : BitVec 1 := Scalar.cmpi .slt c128_i32 c0_i32_248
  let v758 : BitVec 32 := Scalar.extui v757
  let v759 : BitVec 32 := Scalar.subi v756 v758
  let v760 : BitVec 1 := Scalar.cmpi .ne v754 v759
  let v761 : BitVec 32 := Scalar.remsi v745 c128_i32
  let c0_i32_249 : BitVec 32 := 0#32
  let v762 : BitVec 1 := Scalar.cmpi .ne v761 c0_i32_249
  let v763 : BitVec 1 := Scalar.andi v760 v762
  let v749 : BitVec 32 := Scalar.divsi v745 c128_i32
  let c1_i32_250 : BitVec 32 := 1#32
  let v764 : BitVec 32 := Scalar.subi v749 c1_i32_250
  let v765 : BitVec 32 := Scalar.select v763 v764 v749
  let c128_i32_251 : BitVec 32 := 128#32
  let v766 : BitVec 32 := Scalar.muli v765 c128_i32_251
  let v767 : BitVec 32 := Scalar.subi v748 v766
  let c256_i32 : BitVec 32 := 256#32
  let v768 : BitVec 32 := Scalar.addi v767 c256_i32
  let c1_i32_252 : BitVec 32 := 1#32
  let v769 : BitVec 32 := Scalar.subi v768 c1_i32_252
  let c0_i32_254 : BitVec 32 := 0#32
  let v771 : BitVec 1 := Scalar.cmpi .sgt v769 c0_i32_254
  let v772 : BitVec 32 := Scalar.extui v771
  let c0_i32_255 : BitVec 32 := 0#32
  let v773 : BitVec 1 := Scalar.cmpi .slt v769 c0_i32_255
  let v774 : BitVec 32 := Scalar.extui v773
  let v775 : BitVec 32 := Scalar.subi v772 v774
  let c256_i32_253 : BitVec 32 := 256#32
  let c0_i32_256 : BitVec 32 := 0#32
  let v776 : BitVec 1 := Scalar.cmpi .sgt c256_i32_253 c0_i32_256
  let v777 : BitVec 32 := Scalar.extui v776
  let c0_i32_257 : BitVec 32 := 0#32
  let v778 : BitVec 1 := Scalar.cmpi .slt c256_i32_253 c0_i32_257
  let v779 : BitVec 32 := Scalar.extui v778
  let v780 : BitVec 32 := Scalar.subi v777 v779
  let v781 : BitVec 1 := Scalar.cmpi .ne v775 v780
  let v782 : BitVec 32 := Scalar.remsi v769 c256_i32_253
  let c0_i32_258 : BitVec 32 := 0#32
  let v783 : BitVec 1 := Scalar.cmpi .ne v782 c0_i32_258
  let v784 : BitVec 1 := Scalar.andi v781 v783
  let v770 : BitVec 32 := Scalar.divsi v769 c256_i32_253
  let c1_i32_259 : BitVec 32 := 1#32
  let v785 : BitVec 32 := Scalar.subi v770 c1_i32_259
  let v786 : BitVec 32 := Scalar.select v784 v785 v770
  let v787 : BitVec 32 := Scalar.subi v786 c0_i32_261
  let c1_i32_262 : BitVec 32 := 1#32
  let v789 : BitVec 32 := Scalar.divsi v787 c1_i32_262
  let v790 : BitVec 32 := Scalar.muli v789 c1_i32_262
  let v791 : BitVec 32 := Scalar.addi c0_i32_261 v790
  let v788 : BitVec 32 := Scalar.addi c0_i32_261 v787
  let c1_i32_264 : BitVec 32 := 1#32
  ⟨v791, v788, c1_i32_264⟩
def k0_mult2 (v745 : BitVec 32) (v748 : BitVec 32) (k0_t2 : Fin (k0_t2_loop v745 v748).trips) : BitVec 32 :=
  let c0_i32_245 : BitVec 32 := 0#32
  let v750 : BitVec 1 := Scalar.cmpi .sgt v745 c0_i32_245
  let v751 : BitVec 32 := Scalar.extui v750
  let c0_i32_246 : BitVec 32 := 0#32
  let v752 : BitVec 1 := Scalar.cmpi .slt v745 c0_i32_246
  let v753 : BitVec 32 := Scalar.extui v752
  let v754 : BitVec 32 := Scalar.subi v751 v753
  let c128_i32 : BitVec 32 := 128#32
  let c0_i32_247 : BitVec 32 := 0#32
  let v755 : BitVec 1 := Scalar.cmpi .sgt c128_i32 c0_i32_247
  let v756 : BitVec 32 := Scalar.extui v755
  let c0_i32_248 : BitVec 32 := 0#32
  let v757 : BitVec 1 := Scalar.cmpi .slt c128_i32 c0_i32_248
  let v758 : BitVec 32 := Scalar.extui v757
  let v759 : BitVec 32 := Scalar.subi v756 v758
  let v760 : BitVec 1 := Scalar.cmpi .ne v754 v759
  let v761 : BitVec 32 := Scalar.remsi v745 c128_i32
  let c0_i32_249 : BitVec 32 := 0#32
  let v762 : BitVec 1 := Scalar.cmpi .ne v761 c0_i32_249
  let v763 : BitVec 1 := Scalar.andi v760 v762
  let v749 : BitVec 32 := Scalar.divsi v745 c128_i32
  let c1_i32_250 : BitVec 32 := 1#32
  let v764 : BitVec 32 := Scalar.subi v749 c1_i32_250
  let v765 : BitVec 32 := Scalar.select v763 v764 v749
  let c128_i32_251 : BitVec 32 := 128#32
  let v766 : BitVec 32 := Scalar.muli v765 c128_i32_251
  let c0_i32_261 : BitVec 32 := 0#32
  let v767 : BitVec 32 := Scalar.subi v748 v766
  let c256_i32 : BitVec 32 := 256#32
  let v768 : BitVec 32 := Scalar.addi v767 c256_i32
  let c1_i32_252 : BitVec 32 := 1#32
  let v769 : BitVec 32 := Scalar.subi v768 c1_i32_252
  let c0_i32_254 : BitVec 32 := 0#32
  let v771 : BitVec 1 := Scalar.cmpi .sgt v769 c0_i32_254
  let v772 : BitVec 32 := Scalar.extui v771
  let c0_i32_255 : BitVec 32 := 0#32
  let v773 : BitVec 1 := Scalar.cmpi .slt v769 c0_i32_255
  let v774 : BitVec 32 := Scalar.extui v773
  let v775 : BitVec 32 := Scalar.subi v772 v774
  let c256_i32_253 : BitVec 32 := 256#32
  let c0_i32_256 : BitVec 32 := 0#32
  let v776 : BitVec 1 := Scalar.cmpi .sgt c256_i32_253 c0_i32_256
  let v777 : BitVec 32 := Scalar.extui v776
  let c0_i32_257 : BitVec 32 := 0#32
  let v778 : BitVec 1 := Scalar.cmpi .slt c256_i32_253 c0_i32_257
  let v779 : BitVec 32 := Scalar.extui v778
  let v780 : BitVec 32 := Scalar.subi v777 v779
  let v781 : BitVec 1 := Scalar.cmpi .ne v775 v780
  let v782 : BitVec 32 := Scalar.remsi v769 c256_i32_253
  let c0_i32_258 : BitVec 32 := 0#32
  let v783 : BitVec 1 := Scalar.cmpi .ne v782 c0_i32_258
  let v784 : BitVec 1 := Scalar.andi v781 v783
  let v770 : BitVec 32 := Scalar.divsi v769 c256_i32_253
  let c1_i32_259 : BitVec 32 := 1#32
  let v785 : BitVec 32 := Scalar.subi v770 c1_i32_259
  let v786 : BitVec 32 := Scalar.select v784 v785 v770
  let v787 : BitVec 32 := Scalar.subi v786 c0_i32_261
  let c1_i32_262 : BitVec 32 := 1#32
  let v789 : BitVec 32 := Scalar.divsi v787 c1_i32_262
  let v790 : BitVec 32 := Scalar.muli v789 c1_i32_262
  let v791 : BitVec 32 := Scalar.addi c0_i32_261 v790
  let c1_i32_264 : BitVec 32 := 1#32
  let arg14 : BitVec 32 := Scf.iv v791 c1_i32_264 k0_t2
  let c256_i32_265 : BitVec 32 := 256#32
  let v792 : BitVec 32 := Scalar.muli arg14 c256_i32_265
  let v793 : BitVec 32 := Scalar.addi v766 v792
  let c5888_i32 : BitVec 32 := 5888#32
  let v794 : BitVec 32 := Scalar.minsi v793 c5888_i32
  v794
def k0_off6 (v745 : BitVec 32) (v748 : BitVec 32) (k0_t2 : Fin (k0_t2_loop v745 v748).trips) : Fin 2 → Nat :=
  let c0_i32_245 : BitVec 32 := 0#32
  let v750 : BitVec 1 := Scalar.cmpi .sgt v745 c0_i32_245
  let v751 : BitVec 32 := Scalar.extui v750
  let c0_i32_246 : BitVec 32 := 0#32
  let v752 : BitVec 1 := Scalar.cmpi .slt v745 c0_i32_246
  let v753 : BitVec 32 := Scalar.extui v752
  let v754 : BitVec 32 := Scalar.subi v751 v753
  let c128_i32 : BitVec 32 := 128#32
  let c0_i32_247 : BitVec 32 := 0#32
  let v755 : BitVec 1 := Scalar.cmpi .sgt c128_i32 c0_i32_247
  let v756 : BitVec 32 := Scalar.extui v755
  let c0_i32_248 : BitVec 32 := 0#32
  let v757 : BitVec 1 := Scalar.cmpi .slt c128_i32 c0_i32_248
  let v758 : BitVec 32 := Scalar.extui v757
  let v759 : BitVec 32 := Scalar.subi v756 v758
  let v760 : BitVec 1 := Scalar.cmpi .ne v754 v759
  let v761 : BitVec 32 := Scalar.remsi v745 c128_i32
  let c0_i32_249 : BitVec 32 := 0#32
  let v762 : BitVec 1 := Scalar.cmpi .ne v761 c0_i32_249
  let v763 : BitVec 1 := Scalar.andi v760 v762
  let v749 : BitVec 32 := Scalar.divsi v745 c128_i32
  let c1_i32_250 : BitVec 32 := 1#32
  let v764 : BitVec 32 := Scalar.subi v749 c1_i32_250
  let v765 : BitVec 32 := Scalar.select v763 v764 v749
  let c128_i32_251 : BitVec 32 := 128#32
  let v766 : BitVec 32 := Scalar.muli v765 c128_i32_251
  let c0_i32_261 : BitVec 32 := 0#32
  let v767 : BitVec 32 := Scalar.subi v748 v766
  let c256_i32 : BitVec 32 := 256#32
  let v768 : BitVec 32 := Scalar.addi v767 c256_i32
  let c1_i32_252 : BitVec 32 := 1#32
  let v769 : BitVec 32 := Scalar.subi v768 c1_i32_252
  let c0_i32_254 : BitVec 32 := 0#32
  let v771 : BitVec 1 := Scalar.cmpi .sgt v769 c0_i32_254
  let v772 : BitVec 32 := Scalar.extui v771
  let c0_i32_255 : BitVec 32 := 0#32
  let v773 : BitVec 1 := Scalar.cmpi .slt v769 c0_i32_255
  let v774 : BitVec 32 := Scalar.extui v773
  let v775 : BitVec 32 := Scalar.subi v772 v774
  let c256_i32_253 : BitVec 32 := 256#32
  let c0_i32_256 : BitVec 32 := 0#32
  let v776 : BitVec 1 := Scalar.cmpi .sgt c256_i32_253 c0_i32_256
  let v777 : BitVec 32 := Scalar.extui v776
  let c0_i32_257 : BitVec 32 := 0#32
  let v778 : BitVec 1 := Scalar.cmpi .slt c256_i32_253 c0_i32_257
  let v779 : BitVec 32 := Scalar.extui v778
  let v780 : BitVec 32 := Scalar.subi v777 v779
  let v781 : BitVec 1 := Scalar.cmpi .ne v775 v780
  let v782 : BitVec 32 := Scalar.remsi v769 c256_i32_253
  let c0_i32_258 : BitVec 32 := 0#32
  let v783 : BitVec 1 := Scalar.cmpi .ne v782 c0_i32_258
  let v784 : BitVec 1 := Scalar.andi v781 v783
  let v770 : BitVec 32 := Scalar.divsi v769 c256_i32_253
  let c1_i32_259 : BitVec 32 := 1#32
  let v785 : BitVec 32 := Scalar.subi v770 c1_i32_259
  let v786 : BitVec 32 := Scalar.select v784 v785 v770
  let v787 : BitVec 32 := Scalar.subi v786 c0_i32_261
  let c1_i32_262 : BitVec 32 := 1#32
  let v789 : BitVec 32 := Scalar.divsi v787 c1_i32_262
  let v790 : BitVec 32 := Scalar.muli v789 c1_i32_262
  let v791 : BitVec 32 := Scalar.addi c0_i32_261 v790
  let c1_i32_264 : BitVec 32 := 1#32
  let arg14 : BitVec 32 := Scf.iv v791 c1_i32_264 k0_t2
  let c256_i32_265 : BitVec 32 := 256#32
  let v792 : BitVec 32 := Scalar.muli arg14 c256_i32_265
  let v793 : BitVec 32 := Scalar.addi v766 v792
  let c5888_i32 : BitVec 32 := 5888#32
  let v794 : BitVec 32 := Scalar.minsi v793 c5888_i32
  let v795 : BitVec 32 := v794
  let c0_i32_266 : BitVec 32 := 0#32
  ![v795.toNat, 0]
def k0_off7 (v745 : BitVec 32) (v748 : BitVec 32) (k0_t2 : Fin (k0_t2_loop v745 v748).trips) : Fin 2 → Nat :=
  let c0_267 : Index := 0#32
  let c0_i32_245 : BitVec 32 := 0#32
  let v750 : BitVec 1 := Scalar.cmpi .sgt v745 c0_i32_245
  let v751 : BitVec 32 := Scalar.extui v750
  let c0_i32_246 : BitVec 32 := 0#32
  let v752 : BitVec 1 := Scalar.cmpi .slt v745 c0_i32_246
  let v753 : BitVec 32 := Scalar.extui v752
  let v754 : BitVec 32 := Scalar.subi v751 v753
  let c128_i32 : BitVec 32 := 128#32
  let c0_i32_247 : BitVec 32 := 0#32
  let v755 : BitVec 1 := Scalar.cmpi .sgt c128_i32 c0_i32_247
  let v756 : BitVec 32 := Scalar.extui v755
  let c0_i32_248 : BitVec 32 := 0#32
  let v757 : BitVec 1 := Scalar.cmpi .slt c128_i32 c0_i32_248
  let v758 : BitVec 32 := Scalar.extui v757
  let v759 : BitVec 32 := Scalar.subi v756 v758
  let v760 : BitVec 1 := Scalar.cmpi .ne v754 v759
  let v761 : BitVec 32 := Scalar.remsi v745 c128_i32
  let c0_i32_249 : BitVec 32 := 0#32
  let v762 : BitVec 1 := Scalar.cmpi .ne v761 c0_i32_249
  let v763 : BitVec 1 := Scalar.andi v760 v762
  let v749 : BitVec 32 := Scalar.divsi v745 c128_i32
  let c1_i32_250 : BitVec 32 := 1#32
  let v764 : BitVec 32 := Scalar.subi v749 c1_i32_250
  let v765 : BitVec 32 := Scalar.select v763 v764 v749
  let c128_i32_251 : BitVec 32 := 128#32
  let v766 : BitVec 32 := Scalar.muli v765 c128_i32_251
  let c0_i32_261 : BitVec 32 := 0#32
  let v767 : BitVec 32 := Scalar.subi v748 v766
  let c256_i32 : BitVec 32 := 256#32
  let v768 : BitVec 32 := Scalar.addi v767 c256_i32
  let c1_i32_252 : BitVec 32 := 1#32
  let v769 : BitVec 32 := Scalar.subi v768 c1_i32_252
  let c0_i32_254 : BitVec 32 := 0#32
  let v771 : BitVec 1 := Scalar.cmpi .sgt v769 c0_i32_254
  let v772 : BitVec 32 := Scalar.extui v771
  let c0_i32_255 : BitVec 32 := 0#32
  let v773 : BitVec 1 := Scalar.cmpi .slt v769 c0_i32_255
  let v774 : BitVec 32 := Scalar.extui v773
  let v775 : BitVec 32 := Scalar.subi v772 v774
  let c256_i32_253 : BitVec 32 := 256#32
  let c0_i32_256 : BitVec 32 := 0#32
  let v776 : BitVec 1 := Scalar.cmpi .sgt c256_i32_253 c0_i32_256
  let v777 : BitVec 32 := Scalar.extui v776
  let c0_i32_257 : BitVec 32 := 0#32
  let v778 : BitVec 1 := Scalar.cmpi .slt c256_i32_253 c0_i32_257
  let v779 : BitVec 32 := Scalar.extui v778
  let v780 : BitVec 32 := Scalar.subi v777 v779
  let v781 : BitVec 1 := Scalar.cmpi .ne v775 v780
  let v782 : BitVec 32 := Scalar.remsi v769 c256_i32_253
  let c0_i32_258 : BitVec 32 := 0#32
  let v783 : BitVec 1 := Scalar.cmpi .ne v782 c0_i32_258
  let v784 : BitVec 1 := Scalar.andi v781 v783
  let v770 : BitVec 32 := Scalar.divsi v769 c256_i32_253
  let c1_i32_259 : BitVec 32 := 1#32
  let v785 : BitVec 32 := Scalar.subi v770 c1_i32_259
  let v786 : BitVec 32 := Scalar.select v784 v785 v770
  let v787 : BitVec 32 := Scalar.subi v786 c0_i32_261
  let c1_i32_262 : BitVec 32 := 1#32
  let v789 : BitVec 32 := Scalar.divsi v787 c1_i32_262
  let v790 : BitVec 32 := Scalar.muli v789 c1_i32_262
  let v791 : BitVec 32 := Scalar.addi c0_i32_261 v790
  let c1_i32_264 : BitVec 32 := 1#32
  let arg14 : BitVec 32 := Scf.iv v791 c1_i32_264 k0_t2
  let c256_i32_265 : BitVec 32 := 256#32
  let v792 : BitVec 32 := Scalar.muli arg14 c256_i32_265
  let v793 : BitVec 32 := Scalar.addi v766 v792
  let c5888_i32 : BitVec 32 := 5888#32
  let v794 : BitVec 32 := Scalar.minsi v793 c5888_i32
  let v795 : BitVec 32 := v794
  let v797 : Index := Scalar.indexCast v795
  ![0, v797.toNat]

def k0_chk1 (v745 : BitVec 32) (v748 : BitVec 32) : Prop :=
  ((k0_t1_loop v745 v748).OK) ∧
  (∀ k0_t1 : Fin (k0_t1_loop v745 v748).trips, 128 ∣ (k0_mult1 v745 v748 k0_t1).toNat) ∧
  (∀ k0_t1 : Fin (k0_t1_loop v745 v748).trips, ∀ a, (k0_off4 v745 v748 k0_t1) a + S256x4096.size a ≤ S6144x4096.size a) ∧
  (∀ k0_t1 : Fin (k0_t1_loop v745 v748).trips, ∀ (hinb : ∀ a, (k0_off4 v745 v748 k0_t1) a + S256x4096.size a ≤ S6144x4096.size a), (Rect.unit (s := S6144x4096) (k0_off4 v745 v748 k0_t1) S256x4096.size hinb).WholeWords (EltTy.packing .fp8e5m2)) ∧
  (∀ k0_t1 : Fin (k0_t1_loop v745 v748).trips, ∀ a, (k0_off5 v745 v748 k0_t1) a + S1x256.size a ≤ S1x6144.size a) ∧
  ((k0_t2_loop v745 v748).OK) ∧
  (∀ k0_t2 : Fin (k0_t2_loop v745 v748).trips, 128 ∣ (k0_mult2 v745 v748 k0_t2).toNat) ∧
  (∀ k0_t2 : Fin (k0_t2_loop v745 v748).trips, ∀ a, (k0_off6 v745 v748 k0_t2) a + S256x4096.size a ≤ S6144x4096.size a) ∧
  (∀ k0_t2 : Fin (k0_t2_loop v745 v748).trips, ∀ (hinb : ∀ a, (k0_off6 v745 v748 k0_t2) a + S256x4096.size a ≤ S6144x4096.size a), (Rect.unit (s := S6144x4096) (k0_off6 v745 v748 k0_t2) S256x4096.size hinb).WholeWords (EltTy.packing .fp8e5m2)) ∧
  (∀ k0_t2 : Fin (k0_t2_loop v745 v748).trips, ∀ a, (k0_off7 v745 v748 k0_t2) a + S1x256.size a ≤ S1x6144.size a)
theorem k0_t1_ok : ∀ (v745 : BitVec 32) (v748 : BitVec 32) (k0_hw1 : k0_chk1 v745 v748), (k0_t1_loop v745 v748).OK := fun v745 v748 k0_hw1 => k0_hw1.1
theorem k0_mult1_dvd : ∀ (v745 : BitVec 32) (v748 : BitVec 32) (k0_hw1 : k0_chk1 v745 v748) (k0_t1 : Fin (k0_t1_loop v745 v748).trips), 128 ∣ (k0_mult1 v745 v748 k0_t1).toNat := fun v745 v748 k0_hw1 k0_t1 => k0_hw1.2.1 k0_t1
theorem k0_off4_inb : ∀ (v745 : BitVec 32) (v748 : BitVec 32) (k0_hw1 : k0_chk1 v745 v748) (k0_t1 : Fin (k0_t1_loop v745 v748).trips), ∀ a, (k0_off4 v745 v748 k0_t1) a + S256x4096.size a ≤ S6144x4096.size a := fun v745 v748 k0_hw1 k0_t1 => k0_hw1.2.2.1 k0_t1
theorem k0_off4_wordsfp8e5m2 : ∀ (v745 : BitVec 32) (v748 : BitVec 32) (k0_hw1 : k0_chk1 v745 v748) (k0_t1 : Fin (k0_t1_loop v745 v748).trips), (Rect.unit (s := S6144x4096) (k0_off4 v745 v748 k0_t1) S256x4096.size (k0_off4_inb v745 v748 k0_hw1 k0_t1)).WholeWords (EltTy.packing .fp8e5m2) := fun v745 v748 k0_hw1 k0_t1 => k0_hw1.2.2.2.1 k0_t1 (k0_off4_inb v745 v748 k0_hw1 k0_t1)
theorem k0_off5_inb : ∀ (v745 : BitVec 32) (v748 : BitVec 32) (k0_hw1 : k0_chk1 v745 v748) (k0_t1 : Fin (k0_t1_loop v745 v748).trips), ∀ a, (k0_off5 v745 v748 k0_t1) a + S1x256.size a ≤ S1x6144.size a := fun v745 v748 k0_hw1 k0_t1 => k0_hw1.2.2.2.2.1 k0_t1
theorem k0_t2_ok : ∀ (v745 : BitVec 32) (v748 : BitVec 32) (k0_hw1 : k0_chk1 v745 v748), (k0_t2_loop v745 v748).OK := fun v745 v748 k0_hw1 => k0_hw1.2.2.2.2.2.1
theorem k0_mult2_dvd : ∀ (v745 : BitVec 32) (v748 : BitVec 32) (k0_hw1 : k0_chk1 v745 v748) (k0_t2 : Fin (k0_t2_loop v745 v748).trips), 128 ∣ (k0_mult2 v745 v748 k0_t2).toNat := fun v745 v748 k0_hw1 k0_t2 => k0_hw1.2.2.2.2.2.2.1 k0_t2
theorem k0_off6_inb : ∀ (v745 : BitVec 32) (v748 : BitVec 32) (k0_hw1 : k0_chk1 v745 v748) (k0_t2 : Fin (k0_t2_loop v745 v748).trips), ∀ a, (k0_off6 v745 v748 k0_t2) a + S256x4096.size a ≤ S6144x4096.size a := fun v745 v748 k0_hw1 k0_t2 => k0_hw1.2.2.2.2.2.2.2.1 k0_t2
theorem k0_off6_wordsfp8e5m2 : ∀ (v745 : BitVec 32) (v748 : BitVec 32) (k0_hw1 : k0_chk1 v745 v748) (k0_t2 : Fin (k0_t2_loop v745 v748).trips), (Rect.unit (s := S6144x4096) (k0_off6 v745 v748 k0_t2) S256x4096.size (k0_off6_inb v745 v748 k0_hw1 k0_t2)).WholeWords (EltTy.packing .fp8e5m2) := fun v745 v748 k0_hw1 k0_t2 => k0_hw1.2.2.2.2.2.2.2.2.1 k0_t2 (k0_off6_inb v745 v748 k0_hw1 k0_t2)
theorem k0_off7_inb : ∀ (v745 : BitVec 32) (v748 : BitVec 32) (k0_hw1 : k0_chk1 v745 v748) (k0_t2 : Fin (k0_t2_loop v745 v748).trips), ∀ a, (k0_off7 v745 v748 k0_t2) a + S1x256.size a ≤ S1x6144.size a := fun v745 v748 k0_hw1 k0_t2 => k0_hw1.2.2.2.2.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6144x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x3072x32000 : Shape := ⟨3, ![2, 3072, 32000]⟩
abbrev S2x3072x50 : Shape := ⟨3, ![2, 3072, 50]⟩
abbrev S2x3072x4096 : Shape := ⟨3, ![2, 3072, 4096]⟩
abbrev S2x3072 : Shape := ⟨2, ![2, 3072]⟩
abbrev S6144x4096 : Shape := ⟨2, ![6144, 4096]⟩
abbrev S6144 : Shape := ⟨1, ![6144]⟩
abbrev S32000x4096 : Shape := ⟨2, ![32000, 4096]⟩
abbrev S2x3072x50x640 : Shape := ⟨4, ![2, 3072, 50, 640]⟩
abbrev S2x3072x50x1 : Shape := ⟨4, ![2, 3072, 50, 1]⟩
abbrev S2x3072x1 : Shape := ⟨3, ![2, 3072, 1]⟩
abbrev S6144x1 : Shape := ⟨2, ![6144, 1]⟩
abbrev S_ : Shape := ⟨0, ![]⟩

abbrev nBuf : Space → Nat
  | .hbm => 31
  | .vmem => 6
  | .smem => 0
  | _ => 0

abbrev bufTy : (tb : Table) → Fin (tcTables nBuf tb) → BufTy
  | .hbm, ⟨0, _⟩ => ⟨S2x3072x32000, .fp8e5m2⟩
  | .hbm, ⟨1, _⟩ => ⟨S2x3072x50, .f32⟩
  | .hbm, ⟨2, _⟩ => ⟨S2x3072x4096, .fp8e4m3⟩
  | .hbm, ⟨3, _⟩ => ⟨S2x3072, .f32⟩
  | .hbm, ⟨4, _⟩ => ⟨S6144x4096, .fp8e5m2⟩
  | .hbm, ⟨5, _⟩ => ⟨S6144, .f32⟩
  | .hbm, ⟨6, _⟩ => ⟨S6144, .i32⟩
  | .hbm, ⟨7, _⟩ => ⟨S32000x4096, .f32⟩
  | .hbm, ⟨8, _⟩ => ⟨S2x3072x32000, .bf16⟩
  | .hbm, ⟨9, _⟩ => ⟨S2x3072x4096, .bf16⟩
  | .hbm, ⟨10, _⟩ => ⟨S6144x4096, .f32⟩
  | .hbm, ⟨11, _⟩ => ⟨S2x3072x50x640, .bf16⟩
  | .hbm, ⟨12, _⟩ => ⟨S2x3072x50, .bf16⟩
  | .hbm, ⟨13, _⟩ => ⟨S2x3072x50x1, .bf16⟩
  | .hbm, ⟨14, _⟩ => ⟨S2x3072x50x640, .bf16⟩
  | .hbm, ⟨15, _⟩ => ⟨S2x3072x50x640, .bf16⟩
  | .hbm, ⟨16, _⟩ => ⟨S2x3072x32000, .bf16⟩
  | .hbm, ⟨17, _⟩ => ⟨S2x3072, .bf16⟩
  | .hbm, ⟨18, _⟩ => ⟨S2x3072x1, .bf16⟩
  | .hbm, ⟨19, _⟩ => ⟨S2x3072x4096, .bf16⟩
  | .hbm, ⟨20, _⟩ => ⟨S2x3072x4096, .bf16⟩
  | .hbm, ⟨21, _⟩ => ⟨S32000x4096, .f32⟩
  | .hbm, ⟨22, _⟩ => ⟨S6144x1, .f32⟩
  | .hbm, ⟨23, _⟩ => ⟨S6144x4096, .f32⟩
  | .hbm, ⟨24, _⟩ => ⟨S6144x4096, .f32⟩
  | .hbm, ⟨25, _⟩ => ⟨S_, .f32⟩
  | .hbm, ⟨26, _⟩ => ⟨S32000x4096, .f32⟩
  | .hbm, ⟨27, _⟩ => ⟨S6144x1, .i32⟩
  | .hbm, ⟨28, _⟩ => ⟨S32000x4096, .f32⟩
  | .hbm, ⟨29, _⟩ => ⟨S32000x4096, .f32⟩
  | .hbm, ⟨30, _⟩ => ⟨S32000x4096, .f32⟩
  | .local _ .vmem, ⟨0, _⟩ => ⟨S2x3072x32000, .fp8e5m2⟩
  | .local _ .vmem, ⟨1, _⟩ => ⟨S2x3072x4096, .fp8e4m3⟩
  | .local _ .vmem, ⟨2, _⟩ => ⟨S6144x4096, .fp8e5m2⟩
  | .local _ .vmem, ⟨3, _⟩ => ⟨S2x3072x32000, .bf16⟩
  | .local _ .vmem, ⟨4, _⟩ => ⟨S2x3072x4096, .bf16⟩
  | .local _ .vmem, ⟨5, _⟩ => ⟨S6144x4096, .f32⟩
  | _, _ => ⟨S2x3072x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x3072x32000 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3072x32000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Points.lean ====
/- The schedule of the kernel's windows on its grid of 125 points: at which points each window is fetched and written
   back, in closed form, the staging buffers at a point, and the body as the pipeline calls it there. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 2 (%2)) is fetched at the first point only, at any contents of the tables (its index map reads none). -/
theorem fetch0_1 (a : (pcfg0 (F := F)).Adm) : ∀ t : Fin (cfg0 a).N, ((cfg0 a).win 1).fetch t = true ↔ t.val % 125 = 0 :=
  (fun t => Pipeline.Window.fetchOf_const cc0_transform_1 (fun _ _ => rfl) (n := 125) (by decide) t : ∀ t : Fin grid0.N, Pipeline.Window.fetchOf grid0 false cc0_transform_1 t = true ↔ t.val % 125 = 0)
/-- Window 2 (operand 3 (%3)) is fetched at the first point only, at any contents of the tables (its index map reads none). -/
theorem fetch0_2 (a : (pcfg0 (F := F)).Adm) : ∀ t : Fin (cfg0 a).N, ((cfg0 a).win 2).fetch t = true ↔ t.val % 125 = 0 :=
  (fun t => Pipeline.Window.fetchOf_const cc0_transform_2 (fun _ _ => rfl) (n := 125) (by decide) t : ∀ t : Fin grid0.N, Pipeline.Window.fetchOf grid0 false cc0_transform_2 t = true ↔ t.val % 125 = 0)
/-- Window 3 (operand 4 (%4)) is fetched at the first point only, at any contents of the tables (its index map reads none). -/
theorem fetch0_3 (a : (pcfg0 (F := F)).Adm) : ∀ t : Fin (cfg0 a).N, ((cfg0 a).win 3).fetch t = true ↔ t.val % 125 = 0 :=
  (fun t => Pipeline.Window.fetchOf_const cc0_transform_3 (fun _ _ => rfl) (n := 125) (by decide) t : ∀ t : Fin grid0.N, Pipeline.Window.fetchOf grid0 false cc0_transform_3 t = true ↔ t.val % 125 = 0)
/-- Window 4 (operand 6 (%15)) is fetched at the first point only, at any contents of the tables (its index map reads none). -/
theorem fetch0_4 (a : (pcfg0 (F := F)).Adm) : ∀ t : Fin (cfg0 a).N, ((cfg0 a).win 4).fetch t = true ↔ t.val % 125 = 0 :=
  (fun t => Pipeline.Window.fetchOf_const cc0_transform_5 (fun _ _ => rfl) (n := 125) (by decide) t : ∀ t : Fin grid0.N, Pipeline.Window.fetchOf grid0 false cc0_transform_5 t = true ↔ t.val % 125 = 0)
/-- Window 5 (operand 7 (%16)) is fetched at the first point only, at any contents of the tables (its index map reads none). -/
theorem fetch0_5 (a : (pcfg0 (F := F)).Adm) : ∀ t : Fin (cfg0 a).N, ((cfg0 a).win 5).fetch t = true ↔ t.val % 125 = 0 :=
  (fun t => Pipeline.Window.fetchOf_const cc0_transform_6 (fun _ _ => rfl) (n := 125) (by decide) t : ∀ t : Fin grid0.N, Pipeline.Window.fetchOf grid0 false cc0_transform_6 t = true ↔ t.val % 125 = 0)
/-- Window 6 (operand 8 (%arg7)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_7 reads0_6 hreads0_6 0 (by decide) (by decide) (Pipeline.Window.sep_of_coord cc0_transform_7 0 0 (fun _ => rfl) (by decide)) (P := 1) (by decide) t).mpr (Nat.mod_one _) : ∀ t : Fin grid0.N, Pipeline.Window.fetchOf grid0 false cc0_transform_7 t = true)
/-- Window 7 (result 0 (%17)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_8 reads0_7 hreads0_7 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_dw (grid0.coords t) (Memref.whole main_v14) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole main_arg4) (Memref.isWhole_whole _) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) cc0_scratch2

end Cert.Kernel.Gen

end
-- ==== Proof.Bits.Runs.lean ====
/- What the run of the kernel's body and its frame share: the memory as the region is entered (`V`), the table of
   window bounds (`tbl`), the side conditions the body takes (`Hyps`), the block of a window at a point (`iblk`), and
   how the frame of the whole program follows from the body's obligation. -/
module

public import proofs.«01_k».proof.Proof.Gen.Kernel.Launch
public import proofs.«01_k».proof.Proof.Gen.Kernel.Skeleton
public import proofs.«01_k».proof.Proof.Gen.Kernel.Loops
public import proofs.«01_k».proof.Proof.Bits.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of long axes (`View.cover_of_tiled`) recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S126 .i32 := Memref.whole main_v14
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (Pipeline.UD sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (Pipeline.UD sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      (Pipeline.RDat.FramePost.arr_in h c 6 rfl).trans ((hA c 6).trans (V_main_arg7 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S6144x256 .fp8e5m2 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S50x6144 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x6144 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S6144x4096 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x6144 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x6144 .i32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S256x4096 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x4096 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S126) (k0_off2 (grid0.coords t)) S1.size (k0_off2_inb (grid0.coords t))).toLoadRect (tbl m 0) (Shape.Idx.first (numel1_S1.symm ▸ Nat.one_pos))) (tbM0_0.view.readAt (Elt F) (Rect.unit (s := S126) (k0_off3 (grid0.coords t)) S1.size (k0_off3_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S126) (k0_off2 (grid0.coords t)) S1.size (k0_off2_inb (grid0.coords t))).toLoadRect (tbl m 0) (Shape.Idx.first (numel1_S1.symm ▸ Nat.one_pos))) (tbM0_0.view.readAt (Elt F) (Rect.unit (s := S126) (k0_off3 (grid0.coords t)) S1.size (k0_off3_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S126) (k0_off2 (grid0.coords t)) S1.size (k0_off2_inb (grid0.coords t))).toLoadRect (tbl m 0) (Shape.Idx.first (numel1_S1.symm ▸ Nat.one_pos))) (tbM0_0.view.readAt (Elt F) (Rect.unit (s := S126) (k0_off3 (grid0.coords t)) S1.size (k0_off3_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S256x6144 .bf16 := Memref.whole cc0_scratch0
abbrev scM0_1 : Memref sig .tc .vmem S256x4096 .fp8e5m2 := Memref.whole cc0_scratch1
/-- The operands left in HBM that the body copies into scratch itself, whole. -/
abbrev hbM0_0 : Memref sig .tc .hbm S6144x4096 .fp8e5m2 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 11] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0) := by
  rw [Pipeline.ownSems0_eq_of_list c osem0 [0] (by decide) (by decide)]; rfl
/-- The HBM operands the body moves, as references: unscoped, no window's array, no table (`Pipeline.restRefsP`). -/
def H0 : Finset (Ref sig .tc) := {main_arg4}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg4)) := by
  rw [BI.bigSep_eq_bigSepL_of_eq [main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 11) 0) ∗ iprop(hbPt0 c hbM0_0 (V m c main_arg4))) := by
  rw [Pipeline.ΦD_eq, scopedRest0_eq, ownSems00_eq, hbmPts0_eq]; simp only [scM0_0, scM0_1, owns_whole]; try rfl

end Cert.Kernel.Gen

end
-- ==== Proof.Bits.RunA.lean ====
/- The run of the kernel's body at a generic point: it ends without fault and hands every buffer back. -/
module

public import proofs.«01_k».proof.Proof.Bits.Runs

@[expose] public section

-- membership in a rectangle of long axes (`View.cover_of_tiled`) recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1484000 in
/-- The body's triple: on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S6144x256 .fp8e5m2) (harg2 : arg2.IsWhole) (arg3 : Memref sig .tc .vmem S50x6144 .f32) (harg3 : arg3.IsWhole) (arg4 : Memref sig .tc .vmem S1x6144 .f32) (harg4 : arg4.IsWhole) (arg5 : Memref sig .tc .vmem S6144x4096 .fp8e4m3) (harg5 : arg5.IsWhole) (arg7 : Memref sig .tc .vmem S1x6144 .f32) (harg7 : arg7.IsWhole) (arg8 : Memref sig .tc .vmem S1x6144 .i32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x6144 .bf16) (harg11 : arg11.IsWhole) (arg12 : Memref sig .tc .vmem S256x4096 .fp8e5m2) (harg12 : arg12.IsWhole)
    (x0 : Vec F S6144x256 .fp8e5m2) (x1 : Vec F S50x6144 .f32) (x2 : Vec F S1x6144 .f32) (x3 : Vec F S6144x4096 .fp8e4m3) (x4 : Vec F S1x6144 .f32) (x5 : Vec F S1x6144 .i32) (x6 : Vec F S256x4096 .f32) (xt0 : TbBuf0 (F := F) c tbM0_0) (fh0 : HbBuf0 (F := F) c hbM0_0) (k0_hw1 : k0_chk1 (tbM0_0.view.readAt (Elt F) (Rect.unit (s := S126) (k0_off2 i) S1.size (k0_off2_inb i)).toLoadRect xt0 (Shape.Idx.first (numel1_S1.symm ▸ Nat.one_pos))) (tbM0_0.view.readAt (Elt F) (Rect.unit (s := S126) (k0_off3 i) S1.size (k0_off3_inb i)).toLoadRect xt0 (Shape.Idx.first (numel1_S1.symm ▸ Nat.one_pos)))) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ semVal ((c : Thread nD τ), SemLoc.dma 11) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_dw i tbM0_0 htbM0_0 arg2 harg2 arg3 harg3 arg4 harg4 arg5 harg5 (Memref.whole main_arg4) (Memref.isWhole_whole _) arg7 harg7 arg8 harg8 arg9 harg9 arg10 harg10 arg11 harg11 arg12 harg12 cc0_scratch2) K := by
    intro W K
    simp only [cc0_dw_eq_skeleton]; unfold cc0_dw_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, HT0, Hq0, Hh0, HW, Hk⟩
    obtain rfl := harg2.eq_unread hf0; obtain rfl := harg3.eq_unread hf1; obtain rfl := harg4.eq_unread hf2; obtain rfl := harg5.eq_unread hf3; obtain rfl := harg7.eq_unread hf4; obtain rfl := harg8.eq_unread hf5; obtain rfl := harg9.eq_unread hf6
    sl_exec (disch := first | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [Hq0]; · iexact Hq0
    isplitl [Hh0]; · iexact Hh0
    iexists _; iexact HW

end Cert.Kernel.Gen

end
-- ==== Proof.Bits.Frame.lean ====
/- The frame of the kernel's program: the proof data of its pipeline, the body obligation, the launch. -/
module

public import proofs.«01_k».proof.Proof.Bits.RunA
public import Idealize.ShloMosaic.Lib.Claim

@[expose] public section

-- membership in a rectangle of long axes (`View.cover_of_tiled`) recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents; and the tables' halves, `ΦT`); nothing owed; full shares. -/
def dats (hO : Ok m) (hH : Hyps m hO) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ (∃ d, owns (c : Thread nD τ) (ms0_7 m hO t) fullShare d))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6]
  rw [show (dats m hO hH 0 c).Φ t.succ = (dats m hO hH 0 c).Φ t.castSucc from rfl,
    after0_0, after0_1, after0_2, after0_3, after0_4, after0_5, after0_6]
  rw [show (dats m hO hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO hH 0 c).owed t.castSucc = 0 from rfl, show (dats m hO hH 0 c).owed t.succ = 0 from rfl]
  iintro ⟨⟨⟨⟨HS0, HS1⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (V m c main_arg4) (Hyps.c0 hH c t)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HT0]; · iexact HT0
  isplitl [Hq0]; · iexact Hq0
  isplitl [Hh0]; · iexact Hh0
  isplitl [HW]; · iexact HW
  iintro ⟨H0, H1, H2, H3, H4, H5, H6, H7, HS0, HS1, HT0, Hq0, Hh0, ⟨%W', HW'⟩⟩
  isplitl [HS0 HS1 Hg Hq0 Hh0 HT0]
  · isplitl [HS0 HS1 Hg Hq0 Hh0]
    · isplitl [HS0 HS1]
      · isplitl [HS0]; · iexact HS0
        iexact HS1
      isplitl [Hg]
      · iexact Hg
      isplitl [Hq0]
      · iexact Hq0
      iexact Hh0
    iexact HT0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_dma_forget`'s implicit arguments are found by unifying its conclusion with this one, which takes unfolding plain
-- definitions in a metavariable's type
set_option backward.isDefEq.respectTransparency.types false in
/-- The launch: `run_main`'s statement, and every semaphore counter at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_dma_forget (Q' := _) pcfgs (fun _ => adm m hO) (dats m hO hH) (0 : Fin 1) launch0 osem0 defs₀ Variants.none forgets0 ownSemFacts0 H0 H0_sub m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := fun _ => .rfl) (hout := fun c => by change iprop(_ ∗ _) ⊢ _; iintro ⟨HD, -⟩; iexact HD)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hH) ((θ_run defs _ _).mono (fun _ h => h.2) (run_main_quiescent m ρ hO hH))

end Cert.Kernel.Gen

end
-- ==== Proof.Ideal.Points.lean ====
/- The schedule of the kernel's windows on its grid of 125 points, for the idealized program: at which points each
   window is fetched and written back, in closed form, the staging buffers at a point, and the body as the pipeline
   calls it there. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 2 (%2)) is fetched at the first point only, at any contents of the tables (its index map reads none). -/
theorem fetch0_1 (a : (pcfg0 (F := F)).Adm) : ∀ t : Fin (cfg0 a).N, ((cfg0 a).win 1).fetch t = true ↔ t.val % 125 = 0 :=
  (fun t => Pipeline.Window.fetchOf_const cc0_transform_1 (fun _ _ => rfl) (n := 125) (by decide) t : ∀ t : Fin grid0.N, Pipeline.Window.fetchOf grid0 false cc0_transform_1 t = true ↔ t.val % 125 = 0)
/-- Window 2 (operand 3 (%3)) is fetched at the first point only, at any contents of the tables (its index map reads none). -/
theorem fetch0_2 (a : (pcfg0 (F := F)).Adm) : ∀ t : Fin (cfg0 a).N, ((cfg0 a).win 2).fetch t = true ↔ t.val % 125 = 0 :=
  (fun t => Pipeline.Window.fetchOf_const cc0_transform_2 (fun _ _ => rfl) (n := 125) (by decide) t : ∀ t : Fin grid0.N, Pipeline.Window.fetchOf grid0 false cc0_transform_2 t = true ↔ t.val % 125 = 0)
/-- Window 3 (operand 4 (%4)) is fetched at the first point only, at any contents of the tables (its index map reads none). -/
theorem fetch0_3 (a : (pcfg0 (F := F)).Adm) : ∀ t : Fin (cfg0 a).N, ((cfg0 a).win 3).fetch t = true ↔ t.val % 125 = 0 :=
  (fun t => Pipeline.Window.fetchOf_const cc0_transform_3 (fun _ _ => rfl) (n := 125) (by decide) t : ∀ t : Fin grid0.N, Pipeline.Window.fetchOf grid0 false cc0_transform_3 t = true ↔ t.val % 125 = 0)
/-- Window 4 (operand 6 (%15)) is fetched at the first point only, at any contents of the tables (its index map reads none). -/
theorem fetch0_4 (a : (pcfg0 (F := F)).Adm) : ∀ t : Fin (cfg0 a).N, ((cfg0 a).win 4).fetch t = true ↔ t.val % 125 = 0 :=
  (fun t => Pipeline.Window.fetchOf_const cc0_transform_5 (fun _ _ => rfl) (n := 125) (by decide) t : ∀ t : Fin grid0.N, Pipeline.Window.fetchOf grid0 false cc0_transform_5 t = true ↔ t.val % 125 = 0)
/-- Window 5 (operand 7 (%16)) is fetched at the first point only, at any contents of the tables (its index map reads none). -/
theorem fetch0_5 (a : (pcfg0 (F := F)).Adm) : ∀ t : Fin (cfg0 a).N, ((cfg0 a).win 5).fetch t = true ↔ t.val % 125 = 0 :=
  (fun t => Pipeline.Window.fetchOf_const cc0_transform_6 (fun _ _ => rfl) (n := 125) (by decide) t : ∀ t : Fin grid0.N, Pipeline.Window.fetchOf grid0 false cc0_transform_6 t = true ↔ t.val % 125 = 0)
/-- Window 6 (operand 8 (%arg7)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_7 reads0_6 hreads0_6 0 (by decide) (by decide) (Pipeline.Window.sep_of_coord cc0_transform_7 0 0 (fun _ => rfl) (by decide)) (P := 1) (by decide) t).mpr (Nat.mod_one _) : ∀ t : Fin grid0.N, Pipeline.Window.fetchOf grid0 false cc0_transform_7 t = true)
/-- Window 7 (result 0 (%17)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_8 reads0_7 hreads0_7 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_dw (grid0.coords t) (Memref.whole main_v14) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole main_arg4) (Memref.isWhole_whole _) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) cc0_scratch2

end Cert.KernelIdeal.Gen

end
-- ==== Proof.Ideal.Runs.lean ====
/- What the run of the idealized kernel's body and its frame share: the memory as the region is entered (`V`), the
   table of window bounds (`tbl`), the side conditions the body takes (`Hyps`), the block of a window at a point
   (`iblk`), and how the frame of the whole program follows from the body's obligation. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of long axes (`View.cover_of_tiled`) recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S126 .i32 := Memref.whole main_v14
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (Pipeline.UD sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (Pipeline.UD sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      (Pipeline.RDat.FramePost.arr_in h c 6 rfl).trans ((hA c 6).trans (V_main_arg7 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S6144x256 .fp8e5m2 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S50x6144 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x6144 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S6144x4096 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x6144 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x6144 .i32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S256x4096 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x4096 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S126) (k0_off2 (grid0.coords t)) S1.size (k0_off2_inb (grid0.coords t))).toLoadRect (tbl m 0) (Shape.Idx.first (numel1_S1.symm ▸ Nat.one_pos))) (tbM0_0.view.readAt (Elt F) (Rect.unit (s := S126) (k0_off3 (grid0.coords t)) S1.size (k0_off3_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S126) (k0_off2 (grid0.coords t)) S1.size (k0_off2_inb (grid0.coords t))).toLoadRect (tbl m 0) (Shape.Idx.first (numel1_S1.symm ▸ Nat.one_pos))) (tbM0_0.view.readAt (Elt F) (Rect.unit (s := S126) (k0_off3 (grid0.coords t)) S1.size (k0_off3_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S126) (k0_off2 (grid0.coords t)) S1.size (k0_off2_inb (grid0.coords t))).toLoadRect (tbl m 0) (Shape.Idx.first (numel1_S1.symm ▸ Nat.one_pos))) (tbM0_0.view.readAt (Elt F) (Rect.unit (s := S126) (k0_off3 (grid0.coords t)) S1.size (k0_off3_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S256x6144 .bf16 := Memref.whole cc0_scratch0
abbrev scM0_1 : Memref sig .tc .vmem S256x4096 .fp8e5m2 := Memref.whole cc0_scratch1
/-- The operands left in HBM that the body copies into scratch itself, whole. -/
abbrev hbM0_0 : Memref sig .tc .hbm S6144x4096 .fp8e5m2 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 11] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0) := by
  rw [Pipeline.ownSems0_eq_of_list c osem0 [0] (by decide) (by decide)]; rfl
/-- The HBM operands the body moves, as references: unscoped, no window's array, no table (`Pipeline.restRefsP`). -/
def H0 : Finset (Ref sig .tc) := {main_arg4}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg4)) := by
  rw [BI.bigSep_eq_bigSepL_of_eq [main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 11) 0) ∗ iprop(hbPt0 c hbM0_0 (V m c main_arg4))) := by
  rw [Pipeline.ΦD_eq, scopedRest0_eq, ownSems00_eq, hbmPts0_eq]; simp only [scM0_0, scM0_1, owns_whole]; try rfl

end Cert.KernelIdeal.Gen

end
-- ==== Proof.Ideal.Trip.lean ====
/- What one trip of the loop over windows of embedding positions adds to the block. -/
module

public import proofs.«01_k».proof.Proof.Gen.KernelIdeal.Loops
public import Idealize.ShloMosaic.Lib.Ring
public import Idealize.ShloMosaic.Lib.Tactic
public import Idealize.ShloMosaic.Lib.Pointwise
public import Idealize.ShloMosaic.Lib.Pointwise.IndexVar
public import Idealize.ShloMosaic.Lib.Pipeline.Value
public import Idealize.ShloMosaic.Lib.Pipeline.ValueKit.Tiles
public import Idealize.ShloMosaic.Lib.LoopRemainder

@[expose] public section

set_option maxRecDepth 16384

noncomputable section

namespace Cert.KernelIdeal.Gen

open Idealize.ShloMosaic Idealize.ShloMosaic.TcCoe Idealize.ShloMosaic.Tactic

/-- One window's contribution added to the block `A`: row `r` gains the combination of the window's rows `W` with the
    weights `H r`. -/
def stepAt (H : Vec Ideal S256x256 .bf16) (W : Vec Ideal S256x4096 .fp8e5m2) (A : Vec Ideal S256x4096 .f32) :
    Vec Ideal S256x4096 .f32 :=
  fun y => A y + ∑ q : Fin 256, H (ix2 (y 0) q) * W (ix2 q (y 1))

/-- The 512 columns from `o` that one store leaves are those columns of `stepAt`. -/
theorem col_piece (H : Vec Ideal S256x256 .bf16) (W : Vec Ideal S256x4096 .fp8e5m2) (A : Vec Ideal S256x4096 .f32)
    (o : Nat) (inb : ∀ a, ![0, o] a + S256x512.size a ≤ S256x4096.size a) (x : S256x512.Idx) :
    addf (F := Ideal) (s := S256x512) (φ := .f32) (View.ld A (Rect.unit (s := S256x4096) ![0, o] S256x512.size inb))
      (matmul (F := Ideal) (φ₁ := .bf16) (φ₂ := .fp8e5m2) dot_S256x256_S256x512_S256x512_1_0_0_1_n_n none H
        (View.ld W (Rect.unit (s := S256x4096) ![0, o] S256x512.size inb)) (constant S256x512 .f32 0x00000000#32)) x
      = stepAt H W A ((Rect.unit (s := S256x4096) ![0, o] S256x512.size inb).emb x) := by
  idx_vars x
  unfold stepAt
  pointwise
  have h1 : o + (x1 : Nat) < 4096 := by
    have := inb 1; have := x1.isLt
    change o + 512 ≤ 4096 at *
    omega
  have he : (Rect.unit (s := S256x4096) ![0, o] S256x512.size inb).emb (ix2 x0 x1) = ix2 x0 ⟨o + x1, h1⟩ := by
    funext a
    apply Fin.ext
    fin_cases a
    · show 0 + 1 * x0.val = x0.val; omega
    · show o + 1 * x1.val = o + x1.val; omega
  erw [he]
  rfl

/-- One piece that is the whole block leaves its payload. -/
theorem canon_whole {e : EltTy} (w : Vec Ideal S256x4096 e) :
    View.canon [(⟨Rect.whole S256x4096, w⟩ : View.Piece (Elt Ideal) S256x4096 e)] = w :=
  View.canon_unit_zero (S := S256x4096) rfl _ w

set_option maxHeartbeats 4000000 in
/-- One trip of the loop over windows leaves the output block at `stepAt` of what it found there. -/
theorem tripL_read (𝒱 : Variants) (c : Dev nD) (bd : Option 𝒱.V) (i : grid0.Coords) (arg1 : Memref sig .tc .smem S126 .i32) (harg1 : arg1.IsWhole) (arg2 : Memref sig .tc .vmem S6144x256 .fp8e5m2) (harg2 : arg2.IsWhole) (arg3 : Memref sig .tc .vmem S50x6144 .f32) (harg3 : arg3.IsWhole) (arg4 : Memref sig .tc .vmem S1x6144 .f32) (harg4 : arg4.IsWhole) (arg5 : Memref sig .tc .vmem S6144x4096 .fp8e4m3) (harg5 : arg5.IsWhole) (arg6 : Memref sig .tc .hbm S6144x4096 .fp8e5m2) (harg6 : arg6.IsWhole) (arg7 : Memref sig .tc .vmem S1x6144 .f32) (harg7 : arg7.IsWhole) (arg8 : Memref sig .tc .vmem S1x6144 .i32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x6144 .bf16) (harg11 : arg11.IsWhole) (arg12 : Memref sig .tc .vmem S256x4096 .fp8e5m2) (harg12 : arg12.IsWhole) (arg13 : DmaSems sig S_) (arg0 : BitVec 32) (v745 : Elt Ideal .i32) (v748 : Elt Ideal .i32) (k0_hw1 : k0_chk1 v745 v748) (v766 : BitVec 32) (c0_i32_261 : BitVec 32) (X_arg7 : BufTy.Contents (Elt Ideal) arg7.view.ty) (X_arg8 : BufTy.Contents (Elt Ideal) arg8.view.ty) (X_arg6 : BufTy.Contents (Elt Ideal) arg6.view.ty) (k : Fin (k0_t1_loop v745 v748).trips) (f : BufTy.Contents (Elt Ideal) arg10.view.ty) :
    arg10.view.read (Elt Ideal) (arg10.view.writes (Elt Ideal) f (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg0 v745 v748 k0_hw1 v766 c0_i32_261 X_arg7 X_arg8 X_arg6 k f))
      = stepAt (k0_pay7 (F := Ideal) arg0 v745 v748 v766 c0_i32_261 1#32 k
          (View.ld (arg8.view.read (Elt Ideal) X_arg8) (Rect.unit (s := S1x6144) (k0_off5 v745 v748 k) S1x256.size (k0_off5_inb v745 v748 k0_hw1 k)))
          (View.ld (arg7.view.read (Elt Ideal) X_arg7) (Rect.unit (s := S1x6144) (k0_off5 v745 v748 k) S1x256.size (k0_off5_inb v745 v748 k0_hw1 k))))
        (View.ld (arg6.view.read (Elt Ideal) X_arg6) (Rect.unit (s := S6144x4096) (k0_off4 v745 v748 k) S256x4096.size (k0_off4_inb v745 v748 k0_hw1 k)))
        (arg10.view.read (Elt Ideal) f) := by
  funext y
  unfold tripL_k0_t1 trip_k0_t1
  dsimp only
  sl_unfold_run_names
  rw [View.read_writes_apply_eq_canon _ _ y _ (View.cover_of_tiled (s := S256x4096) _ S256x512.size rfl y)]
  refine View.canon_apply_of_pieces _ _ ?_ y (View.cover_of_tiled (s := S256x4096) _ S256x512.size rfl y)
  intro p hp
  simp only [List.mem_cons, List.not_mem_nil, or_false] at hp
  rcases hp with rfl | rfl | rfl | rfl | rfl | rfl | rfl | rfl
  all_goals
    intro x
    dsimp only
    rw [← col_piece]
    simp only [k0_pay1, k0_pay2, k0_pay3, k0_pay8, k0_pay9, k0_pay10, k0_pay11, k0_pay12, k0_pay13, k0_pay14,
      shapeCast_self, View.readCov_eq_canon', canon_whole, View.readAt_eq_ld]
    rfl

end Cert.KernelIdeal.Gen
end
-- ==== Proof.Words.lean ====
/- Floor division of words, as the kernel computes it, against floor division of integers. -/
module

public import proofs.«01_k».proof.Proof.Gen.KernelIdeal.Launch
public import Idealize.ShloMosaic.Lib.Tactic.Disch
public import Idealize.ShloMosaic.Lib.LoopRemainder
public import Idealize.ShloMosaic.Lib.Tactic

@[expose] public section

set_option maxRecDepth 16384

noncomputable section

namespace Cert.Words

open Idealize.ShloMosaic Idealize.ShloMosaic.TcCoe

/-- Floor division of words, as the kernel spells it: the quotient towards zero, less one where the signs differ
    and the division leaves a remainder. -/
@[reducible] def floorDiv (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- A word of value at most 6144, rounded down to a multiple of 128 and divided: the quotient of naturals. -/
theorem floorDiv128_ofNat : ∀ n : Fin 6145, floorDiv (BitVec.ofNat 32 n.val) 128#32 = BitVec.ofNat 32 (n.val / 128) := by
  decide +kernel

/-- Floor division by 256 of a signed word between -6144 and 6400 is floor division of integers. -/
theorem floorDiv256_ofInt : ∀ n : Fin 12545, (floorDiv (BitVec.ofInt 32 (n.val - 6144)) 256#32) = BitVec.ofInt 32 (((n.val : Int) - 6144) / 256) := by
  decide +kernel

end Cert.Words
end
-- ==== Proof.Chk.lean ====
/- The arithmetic of the loop over windows: the number of windows and the first row of each, from two table words. -/
module

public import proofs.«01_k».proof.Proof.Gen.KernelIdeal.Launch
public import proofs.«01_k».proof.Proof.Words
public import Idealize.ShloMosaic.Lib.LoopRemainder
public import Idealize.ShloMosaic.Lib.Tactic

@[expose] public section

set_option maxRecDepth 16384

noncomputable section

namespace Cert.KernelIdeal

open Idealize.ShloMosaic Idealize.ShloMosaic.TcCoe
open Cert.Words

/-- The first token of the first window, from the word `a`: `a` rounded down to a multiple of 128. -/
@[reducible] def fstW (a : BitVec 32) : BitVec 32 := Scalar.muli (floorDiv a 128#32) 128#32
/-- The number of windows, from the two words. -/
@[reducible] def cntW (a b : BitVec 32) : BitVec 32 :=
  floorDiv (Scalar.subi (Scalar.addi (Scalar.subi b (fstW a)) 256#32) 1#32) 256#32

/-- The bounds of the main loop of windows, read off the two table words. -/
theorem t1_loop_eq (a b : BitVec 32) :
    k0_t1_loop a b = ⟨0#32, Scalar.addi 0#32 (Scalar.muli (Scalar.divsi (Scalar.subi (cntW a b) 0#32) 1#32) 1#32), 1#32⟩ := rfl
/-- The bounds of the loop that takes the trips left over by the unrolling: there are none. -/
theorem t2_loop_eq (a b : BitVec 32) :
    k0_t2_loop a b = ⟨Scalar.addi 0#32 (Scalar.muli (Scalar.divsi (Scalar.subi (cntW a b) 0#32) 1#32) 1#32),
      Scalar.addi 0#32 (Scalar.subi (cntW a b) 0#32), 1#32⟩ := rfl
/-- The first row of a window, as the kernel computes it. -/
theorem mult1_eq (a b : BitVec 32) (k : Fin (k0_t1_loop a b).trips) :
    k0_mult1 a b k = Scalar.minsi (Scalar.addi (fstW a) (Scalar.muli (Scf.iv 0#32 1#32 k) 256#32)) 5888#32 := rfl

variable {a b : BitVec 32}

/-- The first window starts at the first bound rounded down to a multiple of 128. -/
theorem fstW_ofNat (n : Nat) (hn : n ≤ 6144) : fstW (BitVec.ofNat 32 n) = BitVec.ofNat 32 (n / 128 * 128) := by
  have h := floorDiv128_ofNat ⟨n, by omega⟩
  simp only at h
  unfold fstW
  rw [h]
  apply BitVec.eq_of_toNat_eq
  simp [Scalar.muli, IntOp.muli, BitVec.toNat_mul]

/-- A word of a small natural reads as that natural. -/
theorem toInt_ofNat_lt (n : Nat) (hn : n < 2 ^ 31) : (BitVec.ofNat 32 n).toInt = n := by
  rw [BitVec.toInt_eq_toNat_of_lt (by rw [BitVec.toNat_ofNat]; omega), BitVec.toNat_ofNat]; omega

/-- The number of windows: the distance from the first window to the second bound over 256, rounded up. -/
theorem cntW_toInt (n k : Nat) (hn : n ≤ 6144) (hk : k ≤ 6144) :
    (cntW (BitVec.ofNat 32 n) (BitVec.ofNat 32 k)).toInt = ((k : Int) - (n / 128 * 128 : Nat) + 255) / 256 := by
  have hx : Scalar.subi (Scalar.addi (Scalar.subi (BitVec.ofNat 32 k) (fstW (BitVec.ofNat 32 n))) 256#32) 1#32
      = BitVec.ofInt 32 (((k + 6399 - n / 128 * 128 : Nat) : Int) - 6144) := by
    rw [fstW_ofNat n hn]
    apply BitVec.eq_of_toInt_eq
    simp only [Scalar.subi, Scalar.addi, IntOp.subi, IntOp.addi, BitVec.toInt_sub, BitVec.toInt_add, BitVec.toInt_ofInt]
    rw [toInt_ofNat_lt _ (by omega), toInt_ofNat_lt _ (by omega), toInt_ofNat_lt _ (by omega), toInt_ofNat_lt _ (by omega)]
    simp only [Int.bmod_def]
    omega
  have h := floorDiv256_ofInt ⟨k + 6399 - n / 128 * 128, by omega⟩
  simp only at h
  unfold cntW
  rw [hx, h, BitVec.toInt_ofInt, Int.bmod_eq_of_le (by omega) (by omega)]
  congr 1; omega

/-- How many trips the loop of windows takes. -/
theorem t1_trips (n k : Nat) (hn : n ≤ 6144) (hk : k ≤ 6144) :
    (k0_t1_loop (BitVec.ofNat 32 n) (BitVec.ofNat 32 k)).trips = (((k : Int) - (n / 128 * 128 : Nat) + 255) / 256).toNat := by
  rw [t1_loop_eq, Scalar.muli_divsi_one]
  have h : (Scalar.addi 0#32 (Scalar.subi (cntW (BitVec.ofNat 32 n) (BitVec.ofNat 32 k)) 0#32)) = cntW (BitVec.ofNat 32 n) (BitVec.ofNat 32 k) := by
    simp [Scalar.addi, Scalar.subi, IntOp.subi, IntOp.addi]
  rw [h]
  show Scf.trips _ _ _ = _
  unfold Scf.trips
  rw [cntW_toInt n k hn hk]
  simp

/-- The first row of window `t`: 256 rows on per window, clamped so that the window stays inside the array. -/
theorem mult1_toNat (n k : Nat) (hn : n ≤ 6144) (hk : k ≤ 6144) (t : Fin (k0_t1_loop (BitVec.ofNat 32 n) (BitVec.ofNat 32 k)).trips) :
    (k0_mult1 (BitVec.ofNat 32 n) (BitVec.ofNat 32 k) t).toNat = min (n / 128 * 128 + t.val * 256) 5888 := by
  have ht := lt_of_lt_of_eq t.isLt (t1_trips n k hn hk)
  rw [mult1_eq, fstW_ofNat n hn]
  have h1 : Scalar.addi (BitVec.ofNat 32 (n / 128 * 128)) (Scalar.muli (Scf.iv 0#32 1#32 t) 256#32) = BitVec.ofNat 32 (n / 128 * 128 + t.val * 256) := by
    apply BitVec.eq_of_toNat_eq
    simp only [Scalar.addi, Scalar.muli, IntOp.muli, IntOp.addi, Scf.iv, BitVec.toNat_add, BitVec.toNat_mul, BitVec.toNat_ofNat]
    omega
  rw [h1]
  unfold Scalar.minsi IntOp.minsi
  have h2 := toInt_ofNat_lt (n / 128 * 128 + t.val * 256) (by omega)
  have h3 : (5888#32).toInt = 5888 := by decide
  split <;> rename_i hc <;> simp only [BitVec.slt, h2, h3, decide_eq_true_eq] at hc
  · rw [BitVec.toNat_ofNat]; omega
  · rw [show (5888#32).toNat = 5888 from by decide]; omega

/-- The body's side condition holds of any two words in `0 … 6144`. -/
theorem chk1_of_le (n k : Nat) (hn : n ≤ 6144) (hk : k ≤ 6144) :
    k0_chk1 (BitVec.ofNat 32 n) (BitVec.ofNat 32 k) := by
  refine ⟨?_, ?_, ?_, ?_, ?_, ?_, ?_, ?_, ?_, ?_⟩
  · rw [t1_loop_eq, Scalar.muli_divsi_one]
    have := Affine.word_range (Scalar.addi 0#32 (Scalar.subi (cntW (BitVec.ofNat 32 n) (BitVec.ofNat 32 k)) 0#32))
    exact Affine.ok (Affine.word _) (Affine.word _) (Affine.ofNat 1 ⟨rfl, by decide⟩) ⟨by decide, by
      have h0 : (0#32).toInt = 0 := by decide
      dsimp only
      omega⟩
  · intro t; rw [mult1_toNat n k hn hk]; omega
  · intro t a
    have h := mult1_toNat n k hn hk t
    fin_cases a
    · show (k0_mult1 (BitVec.ofNat 32 n) (BitVec.ofNat 32 k) t).toNat + 256 ≤ 6144
      omega
    · exact (by decide : 0 + 4096 ≤ 4096)
  · intro t hinb
    refine Affine.words_of_packed (Affine.packed_dvd (by decide) ?_ (by decide))
    show _ ∣ (k0_mult1 (BitVec.ofNat 32 n) (BitVec.ofNat 32 k) t).toNat
    rw [mult1_toNat n k hn hk]
    exact Dvd.dvd.trans (by decide) (show 128 ∣ _ by omega)
  · intro t a
    have h := mult1_toNat n k hn hk t
    fin_cases a
    · exact (by decide : 0 + 1 ≤ 1)
    · show (k0_mult1 (BitVec.ofNat 32 n) (BitVec.ofNat 32 k) t).toNat + 256 ≤ 6144
      omega
  · exact Scf.rem_ok _ _
  · exact fun t => (Scf.rem_no_trip _ _ t).elim
  · exact fun t => (Scf.rem_no_trip _ _ t).elim
  · exact fun t => (Scf.rem_no_trip _ _ t).elim
  · exact fun t => (Scf.rem_no_trip _ _ t).elim

end Cert.KernelIdeal
end
-- ==== Proof.Ideal.Block.lean ====
/- What the body leaves in the block of one point: the accumulator, the product over all tokens, and the windows' sums. -/
module

public import proofs.«01_k».proof.Proof.Ideal.Trip
public import proofs.«01_k».proof.Proof.Chk

@[expose] public section

set_option maxRecDepth 16384

noncomputable section

namespace Cert.KernelIdeal.Gen

open Idealize.ShloMosaic Idealize.ShloMosaic.TcCoe Idealize.ShloMosaic.Tactic

/-- The scaled gradient block a point builds: the gradient block transposed, times the gradient scale of the row's half
    (`D0` for the first 128 rows, `D1` for the others), times the activation scale. -/
def gtAt (G : Vec Ideal S6144x256 .fp8e5m2) (D0 D1 S : Vec Ideal S1x6144 .f32) : Vec Ideal S256x6144 .bf16 :=
  fun y => G (ix2 (y 1) (y 0)) * (if (y 0).val < 128 then D0 (ix2 0 (y 1)) else D1 (ix2 0 (y 1))) * S (ix2 0 (y 1))

/-- The block after the head part: what the gradient held before, plus the product of the scaled gradients with the
    activations. -/
def mainAt (T : Vec Ideal S256x6144 .bf16) (X : Vec Ideal S6144x4096 .fp8e4m3) (M : Vec Ideal S256x4096 .f32) :
    Vec Ideal S256x4096 .f32 :=
  fun y => M y + ∑ q : Fin 6144, T (ix2 (y 0) q) * X (ix2 q (y 1))

/-- One 128 by 256 tile of the scaled gradients, at the rows from `h` and the tokens from `o`. -/
theorem gt_tile (G : Vec Ideal S6144x256 .fp8e5m2) (D : Vec Ideal S1x6144 .bf16) (S : Vec Ideal S1x6144 .f32) (h o : Nat)
    (hG : ∀ a, ![o, h] a + S256x128.size a ≤ S6144x256.size a)
    (hT : ∀ a, ![h, o] a + S128x256.size a ≤ S256x6144.size a)
    (hs : _) (x : S128x256.Idx) :
    mulf (F := Ideal) (s := S128x256) (φ := .bf16)
      (mulf (F := Ideal) (s := S128x256) (φ := .bf16)
        (transpose S128x256 [1, 0] (extf (F := Ideal) (φ := .fp8e5m2) .bf16 (View.ld G (Rect.unit (s := S6144x256) ![o, h] S256x128.size hG)) bitsLt_fp8e5m2_bf16) transposes_S256x128_p1_0_S128x256)
        (broadcastTo S128x256 (extractStridedSlice S1x256 ![0, o] D hs) broadcasts_S1x256_S128x256))
      (broadcastTo S128x256 (truncf (F := Ideal) (φ := .f32) .bf16 (extractStridedSlice S1x256 ![0, o] S hs) bitsLt_bf16_f32) broadcasts_S1x256_S128x256) x
      = (fun y : S256x6144.Idx => G (ix2 (y 1) (y 0)) * D (ix2 0 (y 1)) * S (ix2 0 (y 1)))
          ((Rect.unit (s := S256x6144) ![h, o] S128x256.size hT).emb x) := by
  idx_vars x
  pointwise
  have h0 : h + (x0 : Nat) < 256 := by
    have := hT 0; have := x0.isLt
    change h + 128 ≤ 256 at *
    omega
  have h1 : o + (x1 : Nat) < 6144 := by
    have := hT 1; have := x1.isLt
    change o + 256 ≤ 6144 at *
    omega
  have he : (Rect.unit (s := S256x6144) ![h, o] S128x256.size hT).emb (ix2 x0 x1) = ix2 ⟨h + x0, h0⟩ ⟨o + x1, h1⟩ := by
    funext a
    apply Fin.ext
    fin_cases a
    · show h + 1 * x0.val = h + x0.val; omega
    · show o + 1 * x1.val = o + x1.val; omega
  erw [he]
  rfl

/-- The tile lemma for the first 128 rows. -/
theorem gt_tile0 (G : Vec Ideal S6144x256 .fp8e5m2) (D0 D1 : Vec Ideal S1x6144 .f32) (S : Vec Ideal S1x6144 .f32) (o : Nat)
    (hG : ∀ a, ![o, 0] a + S256x128.size a ≤ S6144x256.size a)
    (hT : ∀ a, ![0, o] a + S128x256.size a ≤ S256x6144.size a)
    (hs : _) (x : S128x256.Idx) :
    mulf (F := Ideal) (s := S128x256) (φ := .bf16)
      (mulf (F := Ideal) (s := S128x256) (φ := .bf16)
        (transpose S128x256 [1, 0] (extf (F := Ideal) (φ := .fp8e5m2) .bf16 (View.ld G (Rect.unit (s := S6144x256) ![o, 0] S256x128.size hG)) bitsLt_fp8e5m2_bf16) transposes_S256x128_p1_0_S128x256)
        (broadcastTo S128x256 (extractStridedSlice S1x256 ![0, o] (truncf (F := Ideal) (φ := .f32) .bf16 D0 bitsLt_bf16_f32) hs) broadcasts_S1x256_S128x256))
      (broadcastTo S128x256 (truncf (F := Ideal) (φ := .f32) .bf16 (extractStridedSlice S1x256 ![0, o] S hs) bitsLt_bf16_f32) broadcasts_S1x256_S128x256) x
      = gtAt G D0 D1 S ((Rect.unit (s := S256x6144) ![0, o] S128x256.size hT).emb x) := by
  rw [gt_tile G _ S 0 o hG hT hs x]
  have h : (((Rect.unit (s := S256x6144) ![0, o] S128x256.size hT).emb x) 0).val < 128 := by
    have := (x 0).isLt
    show 0 + 1 * (x 0).val < 128
    change (x 0).val < 128 at this
    omega
  unfold gtAt
  rw [if_pos h]
  rfl

/-- The tile lemma for the last 128 rows. -/
theorem gt_tile1 (G : Vec Ideal S6144x256 .fp8e5m2) (D0 D1 : Vec Ideal S1x6144 .f32) (S : Vec Ideal S1x6144 .f32) (o : Nat)
    (hG : ∀ a, ![o, 128] a + S256x128.size a ≤ S6144x256.size a)
    (hT : ∀ a, ![128, o] a + S128x256.size a ≤ S256x6144.size a)
    (hs : _) (x : S128x256.Idx) :
    mulf (F := Ideal) (s := S128x256) (φ := .bf16)
      (mulf (F := Ideal) (s := S128x256) (φ := .bf16)
        (transpose S128x256 [1, 0] (extf (F := Ideal) (φ := .fp8e5m2) .bf16 (View.ld G (Rect.unit (s := S6144x256) ![o, 128] S256x128.size hG)) bitsLt_fp8e5m2_bf16) transposes_S256x128_p1_0_S128x256)
        (broadcastTo S128x256 (extractStridedSlice S1x256 ![0, o] (truncf (F := Ideal) (φ := .f32) .bf16 D1 bitsLt_bf16_f32) hs) broadcasts_S1x256_S128x256))
      (broadcastTo S128x256 (truncf (F := Ideal) (φ := .f32) .bf16 (extractStridedSlice S1x256 ![0, o] S hs) bitsLt_bf16_f32) broadcasts_S1x256_S128x256) x
      = gtAt G D0 D1 S ((Rect.unit (s := S256x6144) ![128, o] S128x256.size hT).emb x) := by
  rw [gt_tile G _ S 128 o hG hT hs x]
  have h : ¬ (((Rect.unit (s := S256x6144) ![128, o] S128x256.size hT).emb x) 0).val < 128 := by
    show ¬ (128 + 1 * (x 0).val < 128)
    omega
  unfold gtAt
  rw [if_neg h]
  rfl

/-- A load of the whole scratch block after writes that tile it by pieces of `T` is `T`. -/
theorem gt_readCov (v : View sig .tc .vmem S256x6144 .bf16) (L : List (View.Piece (Elt Ideal) S256x6144 .bf16))
    (T : Vec Ideal S256x6144 .bf16) (inb : ∀ a, ![0, 0] a + S256x6144.size a ≤ S256x6144.size a)
    (h : ∀ p ∈ L, ∀ x, p.2 x = T (p.1.emb x)) (cover : ∀ y, ∃ p ∈ L, y ∈ p.1.set) :
    v.readCov L (Rect.unit (s := S256x6144) ![0, 0] S256x6144.size inb).toLoadRect = T := by
  rw [View.readCov_eq_canon']
  funext y
  have he : (Rect.unit (s := S256x6144) ![0, 0] S256x6144.size inb).toLoadRect.idx y = y := by
    funext a
    apply Fin.ext
    fin_cases a
    · show 0 + 1 * (y 0).val = (y 0).val; omega
    · show 0 + 1 * (y 1).val = (y 1).val; omega
  show View.canon L _ = _
  rw [he]
  exact View.canon_apply_of_pieces T L h y (cover y)

/-- 256 columns from `o` lie in the row. -/
theorem slices_row (o : Nat) (h : o + 256 ≤ 6144) : S1x6144.Slices ![0, o] S1x256 := by
  refine ⟨rfl, ?_⟩
  intro a
  fin_cases a
  · show 0 + 1 ≤ 1; omega
  · exact h

/-- A load of a whole row is the row. -/
theorem ld_row {e : EltTy} (v : Vec Ideal S1x6144 e) (inb : ∀ a, ![0, 0] a + S1x6144.size a ≤ S1x6144.size a) :
    View.ld v (Rect.unit (s := S1x6144) ![0, 0] S1x6144.size inb) = v := by
  funext y
  show v _ = v y
  congr 1
  funext a
  apply Fin.ext
  fin_cases a
  · show 0 + 1 * (y 0).val = (y 0).val; omega
  · show 0 + 1 * (y 1).val = (y 1).val; omega

/-- The weights of one window: `es` at the window's position where that position's id is the row's vocabulary entry and
    the position has not been met by an earlier window, else zero. -/
def hotAt (arg0 : BitVec 32) (a b : BitVec 32) (hw : k0_chk1 a b) (ids : Vec Ideal S1x6144 .i32) (es : Vec Ideal S1x6144 .f32)
    (v766 : BitVec 32) (k : Fin (k0_t1_loop a b).trips) : Vec Ideal S256x256 .bf16 :=
  k0_pay7 (F := Ideal) arg0 a b v766 0#32 1#32 k
    (View.ld ids (Rect.unit (s := S1x6144) (k0_off5 a b k) S1x256.size (k0_off5_inb a b hw k)))
    (View.ld es (Rect.unit (s := S1x6144) (k0_off5 a b k) S1x256.size (k0_off5_inb a b hw k)))

/-- The rows of the embedding gradients one window copies. -/
def winAt (a b : BitVec 32) (hw : k0_chk1 a b) (E : Vec Ideal S6144x4096 .fp8e5m2) (k : Fin (k0_t1_loop a b).trips) :
    Vec Ideal S256x4096 .fp8e5m2 :=
  View.ld E (Rect.unit (s := S6144x4096) (k0_off4 a b k) S256x4096.size (k0_off4_inb a b hw k))

/-- The block after the first `n` windows, from the block `A` after the head part. -/
def accAt (arg0 : BitVec 32) (a b : BitVec 32) (hw : k0_chk1 a b) (ids : Vec Ideal S1x6144 .i32) (es : Vec Ideal S1x6144 .f32)
    (v766 : BitVec 32) (E : Vec Ideal S6144x4096 .fp8e5m2) (A : Vec Ideal S256x4096 .f32) : ℕ → Vec Ideal S256x4096 .f32
  | 0 => A
  | n + 1 => if h : n < (k0_t1_loop a b).trips then
      stepAt (hotAt arg0 a b hw ids es v766 ⟨n, h⟩) (winAt a b hw E ⟨n, h⟩) (accAt arg0 a b hw ids es v766 E A n)
    else accAt arg0 a b hw ids es v766 E A n

/-- What the loop's stores leave in the output block after `n` trips is `accAt` of what the loop found. -/
theorem pb_read (𝒱 : Variants) (c : Dev nD) (bd : Option 𝒱.V) (i : grid0.Coords) (arg1 : Memref sig .tc .smem S126 .i32) (harg1 : arg1.IsWhole) (arg2 : Memref sig .tc .vmem S6144x256 .fp8e5m2) (harg2 : arg2.IsWhole) (arg3 : Memref sig .tc .vmem S50x6144 .f32) (harg3 : arg3.IsWhole) (arg4 : Memref sig .tc .vmem S1x6144 .f32) (harg4 : arg4.IsWhole) (arg5 : Memref sig .tc .vmem S6144x4096 .fp8e4m3) (harg5 : arg5.IsWhole) (arg6 : Memref sig .tc .hbm S6144x4096 .fp8e5m2) (harg6 : arg6.IsWhole) (arg7 : Memref sig .tc .vmem S1x6144 .f32) (harg7 : arg7.IsWhole) (arg8 : Memref sig .tc .vmem S1x6144 .i32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x6144 .bf16) (harg11 : arg11.IsWhole) (arg12 : Memref sig .tc .vmem S256x4096 .fp8e5m2) (harg12 : arg12.IsWhole) (arg13 : DmaSems sig S_) (arg0 : BitVec 32) (v745 : Elt Ideal .i32) (v748 : Elt Ideal .i32) (k0_hw1 : k0_chk1 v745 v748) (v766 : BitVec 32) (c0_i32_261 : BitVec 32) (h0 : c0_i32_261 = 0#32) (X_arg7 : BufTy.Contents (Elt Ideal) arg7.view.ty) (X_arg8 : BufTy.Contents (Elt Ideal) arg8.view.ty) (X_arg6 : BufTy.Contents (Elt Ideal) arg6.view.ty)  (G : BufTy.Contents (Elt Ideal) arg10.view.ty) (n : ℕ) (hn : n ≤ (k0_t1_loop v745 v748).trips) :
    arg10.view.read (Elt Ideal) (arg10.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg0 v745 v748 k0_hw1 v766 c0_i32_261 X_arg7 X_arg8 X_arg6 G n))
      = accAt arg0 v745 v748 k0_hw1 (arg8.view.read (Elt Ideal) X_arg8) (arg7.view.read (Elt Ideal) X_arg7) v766
          (arg6.view.read (Elt Ideal) X_arg6) (arg10.view.read (Elt Ideal) G) n := by
  subst h0
  induction n with
  | zero => rw [pb_k0_t1.eq_1]; rfl
  | succ n ih =>
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 arg0 v745 v748 k0_hw1 v766 0#32 X_arg7 X_arg8 X_arg6 G ⟨n, hn⟩
    dsimp only at e
    rw [e, View.writes_append, tripL_read, ih (Nat.le_of_succ_le hn)]
    rw [accAt, dif_pos (show n < (k0_t1_loop v745 v748).trips from hn)]
    rfl

/-- The 512 columns from `o` that one store leaves are those columns of `mainAt`. -/
theorem main_piece (T : Vec Ideal S256x6144 .bf16) (X : Vec Ideal S6144x4096 .fp8e4m3) (M : Vec Ideal S256x4096 .f32)
    (o : Nat) (inb : ∀ a, ![0, o] a + S256x512.size a ≤ S256x4096.size a)
    (inX : ∀ a, ![0, o] a + S6144x512.size a ≤ S6144x4096.size a) (x : S256x512.Idx) :
    addf (F := Ideal) (s := S256x512) (φ := .f32) (View.ld M (Rect.unit (s := S256x4096) ![0, o] S256x512.size inb))
      (matmul (F := Ideal) (φ₁ := .bf16) (φ₂ := .fp8e4m3) dot_S256x6144_S6144x512_S256x512_1_0_0_1_n_n none T
        (View.ld X (Rect.unit (s := S6144x4096) ![0, o] S6144x512.size inX)) (constant S256x512 .f32 0x00000000#32)) x
      = mainAt T X M ((Rect.unit (s := S256x4096) ![0, o] S256x512.size inb).emb x) := by
  idx_vars x
  unfold mainAt
  pointwise
  have h1 : o + (x1 : Nat) < 4096 := by
    have := inb 1; have := x1.isLt
    change o + 512 ≤ 4096 at *
    omega
  have he : (Rect.unit (s := S256x4096) ![0, o] S256x512.size inb).emb (ix2 x0 x1) = ix2 x0 ⟨o + x1, h1⟩ := by
    funext a
    apply Fin.ext
    fin_cases a
    · show 0 + 1 * x0.val = x0.val; omega
    · show o + 1 * x1.val = o + x1.val; omega
  erw [he]
  rfl

/-- What one point leaves in its output block: the head part, then every window. -/
def outAt (i : grid0.Coords) (a b : BitVec 32) (hw : k0_chk1 a b) (x0 : Vec Ideal S6144x256 .fp8e5m2) (x1 : Vec Ideal S50x6144 .f32)
    (x2 : Vec Ideal S1x6144 .f32) (x3 : Vec Ideal S6144x4096 .fp8e4m3) (x4 : Vec Ideal S1x6144 .f32) (x5 : Vec Ideal S1x6144 .i32)
    (x6 : Vec Ideal S256x4096 .f32) (E : Vec Ideal S6144x4096 .fp8e5m2) : Vec Ideal S256x4096 .f32 :=
  accAt (BitVec.ofNat 32 (i 0).val) a b hw x5 x4 (fstW a) E
    (mainAt (gtAt x0 (View.ld x1 (Rect.unit (s := S50x6144) (k0_off1 i 0#32) S1x6144.size (k0_off1_inb i 0)))
      (View.ld x1 (Rect.unit (s := S50x6144) (k0_off1 i 1#32) S1x6144.size (k0_off1_inb i 1))) x2) x3 x6)
    (k0_t1_loop a b).trips

end Cert.KernelIdeal.Gen
end
-- ==== Proof.Ideal.Run.lean ====
/- The run of the ideal body at one point of the grid, from the block it finds to the block it leaves. -/
module

public import proofs.«01_k».proof.Proof.Ideal.Runs
public import proofs.«01_k».proof.Proof.Ideal.Block
public import Idealize.ShloMosaic.Lib.LoopRemainder

@[expose] public section

-- membership in a rectangle of long axes (`View.cover_of_tiled`) recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

-- (the run's proof term is large: checking it walks past the default budget)
set_option maxHeartbeats 8000000 in
/-- The body's triple: on whole staging memrefs — the inputs' at their contents,
    the output's at anything —
    the body runs to the continuation holding the inputs' as they were, the output's at `outAt` of them, the scratch at some contents. -/
theorem kernelRun0_A (c : Dev nD) (i : grid0.Coords) (arg2 : Memref sig .tc .vmem S6144x256 .fp8e5m2) (harg2 : arg2.IsWhole) (arg3 : Memref sig .tc .vmem S50x6144 .f32) (harg3 : arg3.IsWhole) (arg4 : Memref sig .tc .vmem S1x6144 .f32) (harg4 : arg4.IsWhole) (arg5 : Memref sig .tc .vmem S6144x4096 .fp8e4m3) (harg5 : arg5.IsWhole) (arg7 : Memref sig .tc .vmem S1x6144 .f32) (harg7 : arg7.IsWhole) (arg8 : Memref sig .tc .vmem S1x6144 .i32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x6144 .bf16) (harg11 : arg11.IsWhole) (arg12 : Memref sig .tc .vmem S256x4096 .fp8e5m2) (harg12 : arg12.IsWhole)
    (x0 : Vec Ideal S6144x256 .fp8e5m2) (x1 : Vec Ideal S50x6144 .f32) (x2 : Vec Ideal S1x6144 .f32) (x3 : Vec Ideal S6144x4096 .fp8e4m3) (x4 : Vec Ideal S1x6144 .f32) (x5 : Vec Ideal S1x6144 .i32) (x6 : Vec Ideal S256x4096 .f32) (xt0 : TbBuf0 (F := Ideal) c tbM0_0) (fh0 : HbBuf0 (F := Ideal) c hbM0_0) (k0_hw1 : k0_chk1 (tbM0_0.view.readAt (Elt Ideal) (Rect.unit (s := S126) (k0_off2 i) S1.size (k0_off2_inb i)).toLoadRect xt0 (Shape.Idx.first (numel1_S1.symm ▸ Nat.one_pos))) (tbM0_0.view.readAt (Elt Ideal) (Rect.unit (s := S126) (k0_off3 i) S1.size (k0_off3_inb i)).toLoadRect xt0 (Shape.Idx.first (numel1_S1.symm ▸ Nat.one_pos)))) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ semVal ((c : Thread nD τ), SemLoc.dma 11) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare (outAt i (tbM0_0.view.readAt (Elt Ideal) (Rect.unit (s := S126) (k0_off2 i) S1.size (k0_off2_inb i)).toLoadRect xt0 (Shape.Idx.first (numel1_S1.symm ▸ Nat.one_pos))) (tbM0_0.view.readAt (Elt Ideal) (Rect.unit (s := S126) (k0_off3 i) S1.size (k0_off3_inb i)).toLoadRect xt0 (Shape.Idx.first (numel1_S1.symm ▸ Nat.one_pos))) k0_hw1 x0 x1 x2 x3 x4 x5 x6 ((Memref.whole main_arg4).view.read (Elt Ideal) fh0)) ∗ (∃ d, owns (c : Thread nD τ) arg11 fullShare d) ∗ (∃ d, owns (c : Thread nD τ) arg12 fullShare d) ∗ tbPt0 c tbM0_0 xt0 ∗ semVal ((c : Thread nD τ), SemLoc.dma 11) 0 ∗ hbPt0 c hbM0_0 fh0 ∗ (∃ W', owes (c : Thread nD τ) 0 W')) -∗ K ⟨⟩))
          ⊢ wp frame (wpE (defs₀ (F := Ideal)) Variants.none c none) Set.univ (cc0_dw i tbM0_0 htbM0_0 arg2 harg2 arg3 harg3 arg4 harg4 arg5 harg5 (Memref.whole main_arg4) (Memref.isWhole_whole _) arg7 harg7 arg8 harg8 arg9 harg9 arg10 harg10 arg11 harg11 arg12 harg12 cc0_scratch2) K := by
    intro W K
    simp only [cc0_dw_eq_skeleton]; unfold cc0_dw_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, HT0, Hq0, Hh0, HW, Hk⟩
    obtain rfl := harg2.eq_unread hf0; obtain rfl := harg3.eq_unread hf1; obtain rfl := harg4.eq_unread hf2; obtain rfl := harg5.eq_unread hf3; obtain rfl := harg7.eq_unread hf4; obtain rfl := harg8.eq_unread hf5; obtain rfl := harg9.eq_unread hf6
    sl_exec (disch := first | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; swap; · iexact H7
      ipureintro
      have hT : kernelRun0_A.sl.v689 c i arg2 harg2 arg3 harg3 arg4 harg4 arg11 x0 x1 x2 = gtAt x0
          (View.ld x1 (Rect.unit (s := S50x6144) (k0_off1 i 0#32) S1x6144.size (k0_off1_inb i 0)))
          (View.ld x1 (Rect.unit (s := S50x6144) (k0_off1 i 1#32) S1x6144.size (k0_off1_inb i 1))) x2 := by
        refine Eq.trans ?_ (congrArg (gtAt x0 _ _) (ld_row x2 inb_S1x6144_S1x6144_0_0))
        sl_unfold_run_names
        refine gt_readCov _ _ _ _ ?_ (View.cover_of_tiled (s := S256x6144) _ S128x256.size rfl)
        intro p hp
        simp only [List.mem_cons, List.not_mem_nil, _root_.or_false] at hp
        rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
        all_goals
          intro x
          dsimp only
          first | rw [← gt_tile0] | rw [← gt_tile1]
          simp only [k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self, View.readAt_eq_ld,
            harg2.read_unread, harg3.read_unread, harg4.read_unread]
          all_goals first | rfl | exact slices_row _ (by decide) | (intro a; fin_cases a <;> decide)
      have hM : arg10.view.read (Elt Ideal) (arg10.view.writes (Elt Ideal) arg10.view.junk
            (kernelRun0_A.sl.H7_8 c i arg2 harg2 arg3 harg3 arg4 harg4 arg5 harg5 arg9 harg9 arg11 x0 x1 x2 x3 x6))
          = mainAt (kernelRun0_A.sl.v689 c i arg2 harg2 arg3 harg3 arg4 harg4 arg11 x0 x1 x2) x3 x6 := by
        unfold kernelRun0_A.sl.H7_8 kernelRun0_A.sl.r_18 kernelRun0_A.sl.r_17
        funext y
        rw [View.read_writes_apply_eq_canon _ _ y _ (View.cover_of_tiled (s := S256x4096) _ S256x512.size rfl y)]
        refine View.canon_apply_of_pieces _ _ ?_ y (View.cover_of_tiled (s := S256x4096) _ S256x512.size rfl y)
        intro p hp
        simp only [List.mem_cons, List.not_mem_nil, _root_.or_false] at hp
        rcases hp with rfl | rfl | rfl | rfl | rfl | rfl | rfl | rfl
        all_goals
          intro x
          dsimp only
          rw [← main_piece]
          simp only [k0_pay85, k0_pay86, k0_pay87, k0_pay88, k0_pay89, k0_pay90, k0_pay91, k0_pay92, shapeCast_self,
            View.readAt_eq_ld, harg5.read_unread, harg9.read_unread]
          all_goals first | rfl | (intro a; fin_cases a <;> decide)
      rw [View.writes_append, pb_read, hM, hT, harg7.read_unread, harg8.read_unread]
      · rfl
      all_goals first | rfl | exact le_rfl
    isplitl [HS0]
    · iexists _, _; isplitr; swap; · iexact HS0
      ipureintro; rfl
    isplitl [HS1]
    · iexists _, _; isplitr; swap; · iexact HS1
      ipureintro; rfl
    isplitl [HT0]; · iexact HT0
    isplitl [Hq0]; · iexact Hq0
    isplitl [Hh0]; · iexact Hh0
    iexists _; iexact HW

end Cert.KernelIdeal.Gen

end
-- ==== Proof.Ideal.Frame.lean ====
/- The run of the idealised kernel's program: the proof data of its pipeline with the output named, the body
   obligation at a generic point, the launch, and the frame. -/
module

public import proofs.«01_k».proof.Proof.Ideal.Run
public import Idealize.ShloMosaic.Lib.Claim

@[expose] public section

-- membership in a rectangle of long axes (`View.cover_of_tiled`) recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)
/-! ## The pipeline's proof data -/

/-- The first word of the table that point `t` reads: where its ids begin. -/
abbrev wA (t : Fin 125) : BitVec 32 := tbM0_0.view.readAt (Elt Ideal) (Rect.unit (s := S126) (k0_off2 (grid0.coords t)) S1.size (k0_off2_inb (grid0.coords t))).toLoadRect (tbl m 0) (Shape.Idx.first (numel1_S1.symm ▸ Nat.one_pos))
/-- The second word: where they end. -/
abbrev wB (t : Fin 125) : BitVec 32 := tbM0_0.view.readAt (Elt Ideal) (Rect.unit (s := S126) (k0_off3 (grid0.coords t)) S1.size (k0_off3_inb (grid0.coords t))).toLoadRect (tbl m 0) (Shape.Idx.first (numel1_S1.symm ▸ Nat.one_pos))

/-- What the body leaves in the output's block at point `t`. -/
def blkOut (hO : Ok m) (hH : Hyps m hO) (c : Dev nD) (t : Fin (cfgM m hO).N) : Vec Ideal S256x4096 .f32 :=
  outAt (grid0.coords t) (wA m t) (wB m t) (Hyps.c0 hH c t) (iblk m hO c 0 t) (iblk m hO c 1 t) (iblk m hO c 2 t) (iblk m hO c 3 t)
    (iblk m hO c 4 t) (iblk m hO c 5 t) (iblk m hO c 6 t) ((Memref.whole main_arg4).view.read (Elt Ideal) (V m c main_arg4))

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents; and the tables' halves, `ΦT`); nothing owed; full shares. -/
def dats (hO : Ok m) (hH : Hyps m hO) (_ : Fin 1) (c : Dev nD) : Dat τ (Elt Ideal) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => blkOut m hO hH c t
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl

theorem after0_7 (hO : Ok m) (hH : Hyps m hO) (c : Dev nD) (t : Fin (cfgM m hO).N) : (dats m hO hH 0 c).after 7 t = blkOut m hO hH c t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (hH : Hyps m hO) (c : Dev nD) (t : Fin (cfgM m hO).N) :
    bodyPre m hO hH c t ⊢ wp frame (wpE (defs₀ (F := Ideal)) Variants.none c none) Set.univ (bodyAt0 (adm m hO) t) (fun _ => bodyPost m hO hH c t) := by
  unfold bodyPre bodyPost bodyAt0
  simp only [before0_0, before0_1, before0_2, before0_3, before0_4, before0_5, before0_6]
  rw [show (dats m hO hH 0 c).Φ t.succ = (dats m hO hH 0 c).Φ t.castSucc from rfl,
    after0_0, after0_1, after0_2, after0_3, after0_4, after0_5, after0_6, after0_7]
  rw [show (dats m hO hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO hH 0 c).owed t.castSucc = 0 from rfl, show (dats m hO hH 0 c).owed t.succ = 0 from rfl]
  iintro ⟨⟨⟨⟨HS0, HS1⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (V m c main_arg4) (Hyps.c0 hH c t)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HT0]; · iexact HT0
  isplitl [Hq0]; · iexact Hq0
  isplitl [Hh0]; · iexact Hh0
  isplitl [HW]; · iexact HW
  iintro ⟨H0, H1, H2, H3, H4, H5, H6, H7, HS0, HS1, HT0, Hq0, Hh0, ⟨%W', HW'⟩⟩
  isplitl [HS0 HS1 Hg Hq0 Hh0 HT0]
  · isplitl [HS0 HS1 Hg Hq0 Hh0]
    · isplitl [HS0 HS1]
      · isplitl [HS0]; · iexact HS0
        iexact HS1
      isplitl [Hg]
      · iexact Hg
      isplitl [Hq0]
      · iexact Hq0
      iexact Hh0
    iexact HT0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats m hO hH 0 c) (defs₀ (F := Ideal)) Variants.none () Set.univ := fun t => by
  rw [bigSep_W0, bigSep_W0, defs₀_row m hO]
  exact triple_restated (sound_body m hO hH c t) rfl .rfl fun _ => .rfl

/-! ## The run and the frame -/

-- `θ_run_frameP_dma`'s implicit arguments are found by unifying its conclusion with this one, which takes unfolding plain
-- definitions in a metavariable's type
set_option backward.isDefEq.respectTransparency.types false in
/-- The launch: `run_main`'s statement, and every semaphore counter at zero at every final state. -/
theorem run_main_quiescent (hO : Ok m) (hH : Hyps m hO) : θ_run defs (onTc (τ := τ) (main (F := Ideal))) (s₀ m ρ) (fun r => (Pipeline.FramePost (Pipeline.pin pcfgs fun _ => adm m hO) (dats m hO hH) 0 (V m)) r ∧ r.2.sem = fun _ => 0) :=
  Pipeline.θ_run_frameP_dma (Q' := _) pcfgs (fun _ => adm m hO) (dats m hO hH) (0 : Fin 1) launch0 osem0 defs₀ Variants.none ownSemFacts0 H0 H0_sub m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := fun _ => .rfl) (hout := fun c => by change iprop(_ ∗ _) ⊢ _; iintro ⟨HD, -⟩; iexact HD)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := Ideal))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 6).trans (((dats m hO hH 0 c).arrAt_in 6 rfl _).trans ((A_eq m hO hH c 6).trans (V_main_arg7 m c)))⟩) (run_main m ρ hO hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hH) ((θ_run defs _ _).mono (fun _ h => h.2) (run_main_quiescent m ρ hO hH))

end Cert.KernelIdeal.Gen

end
-- ==== Proof.Table.lean ====
/- The table of window bounds counts the ids below each block, and the ideal program's side conditions on it hold for
   every input. -/
module

public import proofs.«01_k».proof.Proof.Ideal.Runs
public import proofs.«01_k».proof.Proof.Chk
public import Idealize.ShloMosaic.Lib.Claim
public import Idealize.ShloMosaic.Lib.StableHlo.Predicate

@[expose] public section

set_option maxRecDepth 16384

noncomputable section

namespace Cert.KernelIdeal.Gen

open Idealize.ShloMosaic Idealize.ShloMosaic.TcCoe Idealize.ShloMosaic.Tactic
open Idealize.ShloMosaic.StableHlo.Predicate

variable {F : FTy → Type} [FloatOps F]
variable (m : (ℓ : Loc nD τ sig) → Buf (Elt F) ℓ)

/-- How many of the ids lie below the first vocabulary entry of block `j`. -/
def cnt (ids : (⟨1, ![6144]⟩ : Shape).Idx → BitVec 32) (j : Nat) : Nat :=
  (Finset.univ.filter fun q : Fin 6144 => IntOp.cmpi .slt (ids (Shape.Idx.ofFin q)) (BitVec.ofNat 32 j * 256#32) = 1#1).card

/-- A count of ids is at most their number. -/
theorem cnt_le (ids : (⟨1, ![6144]⟩ : Shape).Idx → BitVec 32) (j : Nat) : cnt ids j ≤ 6144 :=
  le_trans (Finset.card_filter_le _ _) (by simp)

/-- The printed count of the ids below the block edges, at an edge. -/
theorem count_apply (ids : (⟨1, ![6144]⟩ : Shape).Idx → BitVec 32) (p : Fin 126) :
    Host.reduce IntOp.addi (extui 32
      (cmpi .slt (broadcastInDim S126x6144 ![0, 1] bcast_S1x6144_S126x6144_0_1 (broadcastInDim S1x6144 ![1] bcast_S6144_S1x6144_1 ids))
        (broadcastInDim S126x6144 ![0, 1] bcast_S126x1_S126x6144_0_1 (broadcastInDim S126x1 ![0] bcast_S126_S126x1_0
          (muli (iotaInDim S126 32 0) (broadcastInDim S126 ![] bcast_S_S126 (constantI S_ 32 256#32)))))) natLt_1_32)
      (constantI S_ 32 0#32) reducesTo_S126x6144_S126_d1 h_S_ (Shape.Idx.ofFin p) = BitVec.ofNat 32 (cnt ids p.val) := by
  apply BitVec.eq_of_toNat_eq
  rw [BitVec.toNat_ofNat, Nat.mod_eq_of_lt (lt_of_le_of_lt (cnt_le _ _) (by decide))]
  refine (toNat_reduce_count_cols (n := 126) (m := 6144) (by decide) _ _ _ _ _).trans ?_
  unfold cnt
  congr 1
  refine Finset.filter_congr fun q _ => ?_
  show IntOp.cmpi .slt _ _ = 1#1 ↔ _
  rw [show ((Shape.Idx.ofFin p : (⟨1, ![126]⟩ : Shape).Idx) 0) = p from rfl, bcast_cols, bcast_rows]
  rfl

/-- The table's contents: the printed count at each of the 126 block edges. -/
theorem tbl_apply (p : Fin 126) :
    tbl m 0 (Shape.Idx.ofFin p) = BitVec.ofNat 32 (cnt (m (((0 : Dev nD) : Thread nD τ).loc main_arg6)) p.val) := by
  rw [← count_apply]
  show V m 0 main_v14 _ = _
  entry_read
  rfl

/-- The word at `k0_off2`: the count at the point's own block. -/
theorem word2 (i : grid0.Coords) (inb) :
    tbM0_0.view.readAt (Elt F) (Rect.unit (s := S126) (k0_off2 i) S1.size inb).toLoadRect (tbl m 0) (Shape.Idx.first (numel1_S1.symm ▸ Nat.one_pos))
      = BitVec.ofNat 32 (cnt (m (((0 : Dev nD) : Thread nD τ).loc main_arg6)) (i 0).val) := by
  have hi : (i 0).val < 125 := (i 0).isLt
  rw [← tbl_apply m ⟨(i 0).val, by omega⟩]
  show tbl m 0 _ = tbl m 0 _
  congr 1
  funext a
  apply Fin.ext
  fin_cases a
  show (BitVec.ofNat 32 (i 0).val).toNat + 1 * 0 = (i 0).val
  rw [BitVec.toNat_ofNat, Nat.mod_eq_of_lt (by omega)]
  omega

/-- The word at `k0_off3`: the count at the next block. -/
theorem word3 (i : grid0.Coords) (inb) :
    tbM0_0.view.readAt (Elt F) (Rect.unit (s := S126) (k0_off3 i) S1.size inb).toLoadRect (tbl m 0) (Shape.Idx.first (numel1_S1.symm ▸ Nat.one_pos))
      = BitVec.ofNat 32 (cnt (m (((0 : Dev nD) : Thread nD τ).loc main_arg6)) ((i 0).val + 1)) := by
  have hi : (i 0).val < 125 := (i 0).isLt
  rw [← tbl_apply m ⟨(i 0).val + 1, by omega⟩]
  show tbl m 0 _ = tbl m 0 _
  congr 1
  funext a
  apply Fin.ext
  fin_cases a
  show (BitVec.ofNat 32 (i 0).val + 1#32).toNat + 1 * 0 = (i 0).val + 1
  rw [BitVec.toNat_add, BitVec.toNat_ofNat, Nat.mod_eq_of_lt (show (i 0).val < 2 ^ 32 by omega)]
  show ((i 0).val + 1) % 2 ^ 32 + 1 * 0 = _
  rw [Nat.mod_eq_of_lt (by omega)]

/-- The table needs no side condition of the pipeline. -/
theorem okT : Ok m := trivial

/-- The side conditions the body assumes hold at every point, whatever the arguments. -/
theorem hypsT : Hyps m (okT m) := Hyps.of fun c t => by
  show k0_chk1 _ _
  rw [word2, word3]
  exact chk1_of_le _ _ (cnt_le _ _) (cnt_le _ _)

end Cert.KernelIdeal.Gen
end
-- ==== Proof.KernelTable.lean ====
/- The kernel's side conditions on its table of window bounds hold for every input. -/
module

public import proofs.«01_k».proof.Proof.Bits.Frame
public import proofs.«01_k».proof.Proof.Table
public import Idealize.ShloMosaic.Lib.Claim
public import Idealize.ShloMosaic.Lib.StableHlo.Predicate

@[expose] public section

set_option maxRecDepth 16384

noncomputable section

namespace Cert.Kernel.Gen

open Idealize.ShloMosaic Idealize.ShloMosaic.TcCoe Idealize.ShloMosaic.Tactic
open Idealize.ShloMosaic.StableHlo.Predicate

variable {F : FTy → Type} [FloatOps F]
variable (m : (ℓ : Loc nD τ sig) → Buf (Elt F) ℓ)

/-- The table's contents: the printed count at each of the 126 block edges. -/
theorem tbl_apply (p : Fin 126) :
    tbl m 0 (Shape.Idx.ofFin p) = BitVec.ofNat 32 (Cert.KernelIdeal.Gen.cnt (m (((0 : Dev nD) : Thread nD τ).loc main_arg6)) p.val) := by
  refine Eq.trans ?_ (Cert.KernelIdeal.Gen.count_apply _ p)
  show V m 0 main_v14 _ = _
  entry_read
  rfl

/-- The word at `k0_off2`: the count at the point's own block. -/
theorem word2 (i : grid0.Coords) (inb) :
    tbM0_0.view.readAt (Elt F) (Rect.unit (s := S126) (k0_off2 i) S1.size inb).toLoadRect (tbl m 0) (Shape.Idx.first (numel1_S1.symm ▸ Nat.one_pos))
      = BitVec.ofNat 32 (Cert.KernelIdeal.Gen.cnt (m (((0 : Dev nD) : Thread nD τ).loc main_arg6)) (i 0).val) := by
  have hi : (i 0).val < 125 := (i 0).isLt
  rw [← tbl_apply m ⟨(i 0).val, by omega⟩]
  show tbl m 0 _ = tbl m 0 _
  congr 1
  funext a
  apply Fin.ext
  fin_cases a
  show (BitVec.ofNat 32 (i 0).val).toNat + 1 * 0 = (i 0).val
  rw [BitVec.toNat_ofNat, Nat.mod_eq_of_lt (by omega)]
  omega

/-- The word at `k0_off3`: the count at the next block. -/
theorem word3 (i : grid0.Coords) (inb) :
    tbM0_0.view.readAt (Elt F) (Rect.unit (s := S126) (k0_off3 i) S1.size inb).toLoadRect (tbl m 0) (Shape.Idx.first (numel1_S1.symm ▸ Nat.one_pos))
      = BitVec.ofNat 32 (Cert.KernelIdeal.Gen.cnt (m (((0 : Dev nD) : Thread nD τ).loc main_arg6)) ((i 0).val + 1)) := by
  have hi : (i 0).val < 125 := (i 0).isLt
  rw [← tbl_apply m ⟨(i 0).val + 1, by omega⟩]
  show tbl m 0 _ = tbl m 0 _
  congr 1
  funext a
  apply Fin.ext
  fin_cases a
  show (BitVec.ofNat 32 (i 0).val + 1#32).toNat + 1 * 0 = (i 0).val + 1
  rw [BitVec.toNat_add, BitVec.toNat_ofNat, Nat.mod_eq_of_lt (show (i 0).val < 2 ^ 32 by omega)]
  show ((i 0).val + 1) % 2 ^ 32 + 1 * 0 = _
  rw [Nat.mod_eq_of_lt (by omega)]

/-- The table needs no side condition of the pipeline. -/
theorem okT : Ok m := trivial

/-- The side conditions the body assumes hold at every point, whatever the arguments. -/
theorem hypsT : Hyps m (okT m) := Hyps.of fun c t => by
  show k0_chk1 _ _
  rw [word2, word3]
  exact Cert.KernelIdeal.chk1_of_le _ _ (Cert.KernelIdeal.Gen.cnt_le _ _) (Cert.KernelIdeal.Gen.cnt_le _ _)

end Cert.Kernel.Gen
end
-- ==== Proof.Sums.lean ====
/- Sums over windows: consecutive windows of 256 positions, the last ones clamped so that they end at position 6144,
   each counting only the positions no earlier window has met, run through every position between the first window's
   start and the last one's end exactly once. -/
module

public import Mathlib.Algebra.BigOperators.Fin
public import Mathlib.Data.EReal.Operations

@[expose] public section

namespace Cert.Sums

/-- One window, from `b`, of which only the positions from `lo` on count: the sum over the positions
    `lo … lo + 255` that the array has. -/
theorem window_sum (G : ℕ → EReal) (b lo : ℕ) (hb : b = min lo 5888) :
    ∑ q : Fin 256, (if lo ≤ b + q.val then G (b + q.val) else 0)
      = ∑ p : Fin 6144, if lo ≤ p.val ∧ p.val < lo + 256 then G p.val else 0 := by
  rw [← Finset.sum_filter, ← Finset.sum_filter]
  refine Finset.sum_bij' (fun q _ => (⟨b + q.val, by omega⟩ : Fin 6144))
    (fun p hp => (⟨p.val - b, by
      have := (Finset.mem_filter.mp hp).2
      have := p.isLt
      omega⟩ : Fin 256)) ?_ ?_ ?_ ?_ ?_
  · intro q hq
    have := (Finset.mem_filter.mp hq).2
    refine Finset.mem_filter.mpr ⟨Finset.mem_univ _, ?_⟩
    dsimp only
    omega
  · intro p hp
    have := (Finset.mem_filter.mp hp).2
    refine Finset.mem_filter.mpr ⟨Finset.mem_univ _, ?_⟩
    dsimp only
    omega
  · intro q hq
    apply Fin.ext
    dsimp only
    omega
  · intro p hp
    have := (Finset.mem_filter.mp hp).2
    apply Fin.ext
    dsimp only
    omega
  · intro q hq
    rfl

/-- All windows: where `G` is zero outside the positions they span, they sum `G` over the whole array. -/
theorem windows_sum (G : ℕ → EReal) (f T : ℕ) (h : ∀ p : Fin 6144, G p.val ≠ 0 → f ≤ p.val ∧ p.val < f + T * 256) :
    ∑ k ∈ Finset.range T, ∑ q : Fin 256, (if f + k * 256 ≤ min (f + k * 256) 5888 + q.val
        then G (min (f + k * 256) 5888 + q.val) else 0)
      = ∑ p : Fin 6144, G p.val := by
  rw [Finset.sum_congr rfl fun k _ => window_sum G _ (f + k * 256) rfl, Finset.sum_comm]
  refine Finset.sum_congr rfl fun p _ => ?_
  by_cases hG : G p.val = 0
  · rw [hG]; simp
  · have hp := h p hG
    rw [Finset.sum_eq_single ((p.val - f) / 256)]
    · rw [if_pos (by omega)]
    · intro k _ hk
      rw [if_neg (by omega)]
    · intro hk
      exact absurd (Finset.mem_range.mpr (by omega)) hk

end Cert.Sums
end
-- ==== Proof.Spec.lean ====
/- The gradient of the tied embedding table, index by index, in the extended reals: what both programs compute. -/
module

public import Mathlib.Algebra.BigOperators.Fin
public import Mathlib.Data.EReal.Operations

@[expose] public section

namespace Cert

/-- Row `v`, column `d` of the result: the accumulator, plus the sum over all tokens of the token's scaled gradient times
    its activation, plus the sum over all positions whose id is `v` of the position's scaled embedding gradient. -/
noncomputable def spec (g : Fin 6144 → Fin 32000 → EReal) (gs : Fin 6144 → Fin 50 → EReal) (xs : Fin 6144 → EReal)
    (x e : Fin 6144 → Fin 4096 → EReal) (es : Fin 6144 → EReal) (ids : Fin 6144 → BitVec 32)
    (acc : Fin 32000 → Fin 4096 → EReal) (v : Fin 32000) (d : Fin 4096) : EReal :=
  acc v d + ∑ q : Fin 6144, g q v * gs q ⟨v.val / 640, by omega⟩ * xs q * x q d
    + ∑ p : Fin 6144, if BitVec.ofNat 32 v.val = ids p then es p * e p d else 0

/-- Equal inputs, equal results. -/
theorem spec_congr {g g' : Fin 6144 → Fin 32000 → EReal} {gs gs' : Fin 6144 → Fin 50 → EReal} {xs xs' : Fin 6144 → EReal}
    {x x' e e' : Fin 6144 → Fin 4096 → EReal} {es es' : Fin 6144 → EReal} {ids ids' : Fin 6144 → BitVec 32}
    {acc acc' : Fin 32000 → Fin 4096 → EReal} {v : Fin 32000} {d : Fin 4096}
    (hg : ∀ q, g q v = g' q v) (hgs : ∀ q k, gs q k = gs' q k) (hxs : ∀ q, xs q = xs' q) (hx : ∀ q d, x q d = x' q d)
    (he : ∀ p d, e p d = e' p d) (hes : ∀ p, es p = es' p) (hids : ∀ p, ids p = ids' p) (hacc : acc v d = acc' v d) :
    spec g gs xs x e es ids acc v d = spec g' gs' xs' x' e' es' ids' acc' v d := by
  unfold spec
  simp only [hg, hgs, hxs, hx, he, hes, hids, hacc]

/-- The batch of a token. -/
def batch (q : Fin 6144) : Fin 2 := ⟨q.val / 3072, by omega⟩

/-- The place of a token in its batch. -/
def place (q : Fin 6144) : Fin 3072 := ⟨q.val % 3072, by omega⟩

/-- A sum over batches and places is one over the tokens. -/
theorem sum_tokens (f : Fin 2 → Fin 3072 → EReal) : ∑ b, ∑ s, f b s = ∑ q : Fin 6144, f (batch q) (place q) := by
  rw [← Fintype.sum_prod_type' f]
  refine Finset.sum_bij' (fun p _ => (⟨p.1.val * 3072 + p.2.val, by have := p.1.isLt; have := p.2.isLt; omega⟩ : Fin 6144))
    (fun q _ => (batch q, place q)) (fun _ _ => Finset.mem_univ _) (fun _ _ => Finset.mem_univ _) ?_ ?_ ?_
  · intro p _
    have := p.1.isLt
    have := p.2.isLt
    refine Prod.ext (Fin.ext ?_) (Fin.ext ?_)
    · show (p.1.val * 3072 + p.2.val) / 3072 = p.1.val; omega
    · show (p.1.val * 3072 + p.2.val) % 3072 = p.2.val; omega
  · intro q _
    apply Fin.ext
    show q.val / 3072 * 3072 + q.val % 3072 = q.val
    omega
  · intro p _
    have := p.1.isLt
    have := p.2.isLt
    have h0 : batch ⟨p.1.val * 3072 + p.2.val, by omega⟩ = p.1 := Fin.ext (by
      show (p.1.val * 3072 + p.2.val) / 3072 = p.1.val; omega)
    have h1 : place ⟨p.1.val * 3072 + p.2.val, by omega⟩ = p.2 := Fin.ext (by
      show (p.1.val * 3072 + p.2.val) % 3072 = p.2.val; omega)
    rw [h0, h1]

end Cert
end
-- ==== Proof.Ideal.Windows.lean ====
/- What the loop over windows adds to a block, as one sum over all positions of the embedding gradients. -/
module

public import proofs.«01_k».proof.Proof.Ideal.Block
public import proofs.«01_k».proof.Proof.Sums
public import proofs.«01_k».proof.Proof.Spec
public import Idealize.ShloMosaic.Lib.Pointwise
public import Idealize.ShloMosaic.Lib.StableHlo.Predicate
public import Idealize.ShloMosaic.Lib.Pointwise.IndexVar

@[expose] public section

set_option maxRecDepth 16384

noncomputable section

namespace Cert.KernelIdeal.Gen

open Idealize.ShloMosaic Idealize.ShloMosaic.TcCoe Idealize.ShloMosaic.Tactic
open Idealize.ShloMosaic.StableHlo.Predicate

/-- The block after `n` windows is the block before plus, window by window, what each adds. -/
theorem accAt_eq (arg0 a b : BitVec 32) (hw : k0_chk1 a b) (ids : Vec Ideal S1x6144 .i32) (es : Vec Ideal S1x6144 .f32)
    (v766 : BitVec 32) (E : Vec Ideal S6144x4096 .fp8e5m2) (A : Vec Ideal S256x4096 .f32) (y : S256x4096.Idx)
    (W : ℕ → EReal)
    (hW : ∀ k : Fin (k0_t1_loop a b).trips,
      ∑ q : Fin 256, hotAt arg0 a b hw ids es v766 k (ix2 (y 0) q) * winAt a b hw E k (ix2 q (y 1)) = W k.val) :
    ∀ n : ℕ, n ≤ (k0_t1_loop a b).trips →
      accAt arg0 a b hw ids es v766 E A n y = A y + ∑ k ∈ Finset.range n, W k := by
  intro n
  induction n with
  | zero =>
    intro _
    rw [Finset.sum_range_zero]
    exact (add_zero (A y)).symm
  | succ n ih =>
    intro hn
    rw [accAt, dif_pos (show n < (k0_t1_loop a b).trips from hn), Finset.sum_range_succ, ← add_assoc, ← ih (Nat.le_of_succ_le hn), ← hW ⟨n, hn⟩]
    rfl

/-- The first position window `t` reaches, before clamping, as a word. -/
theorem first_word (n k : ℕ) (hn : n ≤ 6144) (hk : k ≤ 6144) (t : Fin (k0_t1_loop (BitVec.ofNat 32 n) (BitVec.ofNat 32 k)).trips) :
    Scalar.addi (fstW (BitVec.ofNat 32 n)) (Scalar.muli (Scf.iv 0#32 1#32 t) 256#32) = BitVec.ofNat 32 (n / 128 * 128 + t.val * 256)
      ∧ n / 128 * 128 + t.val * 256 < 6400 := by
  have ht := lt_of_lt_of_eq t.isLt (t1_trips n k hn hk)
  rw [fstW_ofNat n hn]
  refine ⟨?_, by omega⟩
  apply BitVec.eq_of_toNat_eq
  simp only [Scalar.addi, Scalar.muli, IntOp.muli, IntOp.addi, Scf.iv, BitVec.toNat_add, BitVec.toNat_mul, BitVec.toNat_ofNat]
  omega

/-- The first position window `t` copies, after clamping, as a word. -/
theorem base_word (n k : ℕ) (hn : n ≤ 6144) (hk : k ≤ 6144) (t : Fin (k0_t1_loop (BitVec.ofNat 32 n) (BitVec.ofNat 32 k)).trips) :
    Scalar.minsi (BitVec.ofNat 32 (n / 128 * 128 + t.val * 256)) 5888#32 = BitVec.ofNat 32 (min (n / 128 * 128 + t.val * 256) 5888) := by
  have h := mult1_toNat n k hn hk t
  rw [mult1_eq, (first_word n k hn hk t).1] at h
  apply BitVec.eq_of_toNat_eq
  rw [h, BitVec.toNat_ofNat, Nat.mod_eq_of_lt (by omega)]

/-- A load of 256 columns of a row, at an index. -/
theorem ld_cols {e : EltTy} (v : Vec Ideal S1x6144 e) (o : Fin 2 → ℕ) (b : ℕ) (ho : o = ![0, b])
    (inb : ∀ a, o a + S1x256.size a ≤ S1x6144.size a) (q : Fin 256) (hp : b + q.val < 6144) :
    View.ld v (Rect.unit (s := S1x6144) o S1x256.size inb) (ix2 0 q) = v (ix2 0 ⟨b + q.val, hp⟩) := by
  subst ho
  show v _ = v _
  congr 1
  funext a
  apply Fin.ext
  fin_cases a
  · rfl
  · show b + 1 * q.val = b + q.val; omega

/-- The weight of position `q` of a window for row `r` of the block, over the extended reals. -/
theorem hot_apply (i n k : ℕ) (hi : i < 125) (hn : n ≤ 6144) (hk : k ≤ 6144)
    (hw : k0_chk1 (BitVec.ofNat 32 n) (BitVec.ofNat 32 k)) (ids : Vec Ideal S1x6144 .i32) (es : Vec Ideal S1x6144 .f32)
    (t : Fin (k0_t1_loop (BitVec.ofNat 32 n) (BitVec.ofNat 32 k)).trips) (r q : Fin 256)
    (hp : min (n / 128 * 128 + t.val * 256) 5888 + q.val < 6144) :
    hotAt (BitVec.ofNat 32 i) (BitVec.ofNat 32 n) (BitVec.ofNat 32 k) hw ids es (fstW (BitVec.ofNat 32 n)) t (ix2 r q)
      = (if BitVec.ofNat 32 (i * 256 + r.val) = ids (ix2 0 ⟨min (n / 128 * 128 + t.val * 256) 5888 + q.val, hp⟩) then
          (if n / 128 * 128 + t.val * 256 ≤ min (n / 128 * 128 + t.val * 256) 5888 + q.val then
            es (ix2 0 ⟨min (n / 128 * 128 + t.val * 256) 5888 + q.val, hp⟩) else 0) else 0 : EReal) := by
  have ho : k0_off5 (BitVec.ofNat 32 n) (BitVec.ofNat 32 k) t = ![0, min (n / 128 * 128 + t.val * 256) 5888] := by
    rw [← mult1_toNat n k hn hk t]; rfl
  unfold hotAt
  rw [← ld_cols ids _ _ ho (k0_off5_inb _ _ hw t) q hp, ← ld_cols es _ _ ho (k0_off5_inb _ _ hw t) q hp]
  generalize View.ld ids _ = I
  generalize View.ld es _ = S
  unfold k0_pay7
  dsimp only
  obtain ⟨h1, h2⟩ := first_word n k hn hk t
  rw [h1, base_word n k hn hk t]
  generalize n / 128 * 128 + t.val * 256 = L at *
  pointwise
  have hL : IntOp.addi (Scalar.muli (BitVec.ofNat 32 i) 256#32) (BitVec.ofNat 32 r.val) = BitVec.ofNat 32 (i * 256 + r.val) := by
    apply BitVec.eq_of_toNat_eq
    simp only [Scalar.muli, IntOp.muli, IntOp.addi, BitVec.toNat_add, BitVec.toNat_mul, BitVec.toNat_ofNat]
    omega
  have hB : IntOp.addi (BitVec.ofNat 32 (min L 5888)) (BitVec.ofNat 32 q.val) = BitVec.ofNat 32 (min L 5888 + q.val) := by
    apply BitVec.eq_of_toNat_eq
    simp only [IntOp.addi, BitVec.toNat_add, BitVec.toNat_ofNat]
    omega
  have hge : IntOp.cmpi .sge (BitVec.ofNat 32 (min L 5888 + q.val)) (BitVec.ofNat 32 L) = 1#1 ↔ L ≤ min L 5888 + q.val := by
    rw [sge_iff_toNat (by rw [BitVec.toNat_ofNat]; omega) (by rw [BitVec.toNat_ofNat]; omega), BitVec.toNat_ofNat, BitVec.toNat_ofNat,
      Nat.mod_eq_of_lt (by omega), Nat.mod_eq_of_lt (by omega)]
  rw [hL, hB]
  simp only [Scalar.select, show (1 : BitVec 1) = 1#1 from rfl, cmpi_eq_iff, hge]

/-- A window's row `q` is row `base + q` of the embedding gradients. -/
theorem win_apply (n k : ℕ) (hn : n ≤ 6144) (hk : k ≤ 6144)
    (hw : k0_chk1 (BitVec.ofNat 32 n) (BitVec.ofNat 32 k)) (E : Vec Ideal S6144x4096 .fp8e5m2)
    (t : Fin (k0_t1_loop (BitVec.ofNat 32 n) (BitVec.ofNat 32 k)).trips) (q : Fin 256) (d : Fin 4096)
    (hp : min (n / 128 * 128 + t.val * 256) 5888 + q.val < 6144) :
    winAt (BitVec.ofNat 32 n) (BitVec.ofNat 32 k) hw E t (ix2 q d)
      = E (ix2 ⟨min (n / 128 * 128 + t.val * 256) 5888 + q.val, hp⟩ d) := by
  unfold winAt
  show E _ = E _
  congr 1
  funext a
  apply Fin.ext
  fin_cases a
  · show (k0_mult1 (BitVec.ofNat 32 n) (BitVec.ofNat 32 k) t).toNat + 1 * q.val = min (n / 128 * 128 + t.val * 256) 5888 + q.val
    rw [mult1_toNat n k hn hk t]; omega
  · show 0 + 1 * d.val = d.val; omega

/-- All the windows together add, to row `r` and column `d` of the block, the scaled embedding gradients of the positions
    whose id is the row's vocabulary entry, provided those positions lie between the two bounds. -/
theorem loop_apply (i n k : ℕ) (hi : i < 125) (hn : n ≤ 6144) (hk : k ≤ 6144)
    (hw : k0_chk1 (BitVec.ofNat 32 n) (BitVec.ofNat 32 k)) (ids : Vec Ideal S1x6144 .i32) (es : Vec Ideal S1x6144 .f32)
    (E : Vec Ideal S6144x4096 .fp8e5m2) (A : Vec Ideal S256x4096 .f32) (r : Fin 256) (d : Fin 4096)
    (hs : ∀ p : Fin 6144, BitVec.ofNat 32 (i * 256 + r.val) = ids (ix2 0 p) → n ≤ p.val ∧ p.val < k) :
    accAt (BitVec.ofNat 32 i) (BitVec.ofNat 32 n) (BitVec.ofNat 32 k) hw ids es (fstW (BitVec.ofNat 32 n)) E A
        (k0_t1_loop (BitVec.ofNat 32 n) (BitVec.ofNat 32 k)).trips (ix2 r d)
      = (A (ix2 r d) + ∑ p : Fin 6144, if BitVec.ofNat 32 (i * 256 + r.val) = ids (ix2 0 p) then
          es (ix2 0 p) * E (ix2 p d) else 0 : EReal) := by
  have hT := t1_trips n k hn hk
  let G : ℕ → EReal := fun p => if h : p < 6144 then
    (if BitVec.ofNat 32 (i * 256 + r.val) = ids (ix2 0 ⟨p, h⟩) then es (ix2 0 ⟨p, h⟩) * E (ix2 ⟨p, h⟩ d) else 0) else 0
  have hG : ∀ p : Fin 6144, G p.val = if BitVec.ofNat 32 (i * 256 + r.val) = ids (ix2 0 p) then es (ix2 0 p) * E (ix2 p d) else 0 :=
    fun p => dif_pos p.isLt
  rw [accAt_eq _ _ _ hw ids es _ E A (ix2 r d)
    (fun t => ∑ q : Fin 256, (if n / 128 * 128 + t * 256 ≤ min (n / 128 * 128 + t * 256) 5888 + q.val
      then G (min (n / 128 * 128 + t * 256) 5888 + q.val) else 0)) ?_ _ le_rfl]
  · rw [Cert.Sums.windows_sum G (n / 128 * 128) _ ?_]
    · exact congrArg _ (Finset.sum_congr rfl fun p _ => hG p)
    · intro p hp
      rw [hG p] at hp
      have hb := hs p (by by_contra hne; exact hp (if_neg hne))
      rw [hT]
      omega
  · intro t
    refine Finset.sum_congr rfl fun q _ => ?_
    have hp : min (n / 128 * 128 + t.val * 256) 5888 + q.val < 6144 := by omega
    show hotAt _ _ _ hw ids es _ t (ix2 r q) * winAt _ _ hw E t (ix2 q d) = _
    rw [hot_apply i n k hi hn hk hw ids es t r q hp, win_apply n k hn hk hw E t q d hp]
    rw [show G (min (n / 128 * 128 + t.val * 256) 5888 + q.val) = _ from hG ⟨_, hp⟩]
    by_cases h1 : BitVec.ofNat 32 (i * 256 + r.val) = ids (ix2 0 ⟨min (n / 128 * 128 + t.val * 256) 5888 + q.val, hp⟩)
    · rw [if_pos h1, if_pos h1]
      by_cases h2 : n / 128 * 128 + t.val * 256 ≤ min (n / 128 * 128 + t.val * 256) 5888 + q.val
      · rw [if_pos h2, if_pos h2]
      · rw [if_neg h2, if_neg h2]; exact zero_mul _
    · rw [if_neg h1, if_neg h1]
      rw [ite_self]; exact zero_mul _

end Cert.KernelIdeal.Gen
end
-- ==== Proof.Ideal.Value.lean ====
/- What one grid point leaves in its output block, at an index: the accumulator, plus the product of the scaled gradients
   with the activations, plus the scaled embedding gradients whose id is the row's vocabulary entry. -/
module

public import proofs.«01_k».proof.Proof.Ideal.Windows

@[expose] public section

set_option maxRecDepth 16384

noncomputable section

namespace Cert.KernelIdeal.Gen

open Idealize.ShloMosaic Idealize.ShloMosaic.TcCoe Idealize.ShloMosaic.Tactic

/-- The row of gradient scales used for the first 128 rows of block `i`. -/
theorem chunk0 : ∀ i : Fin 125,
    (Scalar.divsi (Scalar.addi (Scalar.muli (BitVec.ofNat 32 i.val) 2#32) 0#32) 5#32).toNat = 2 * i.val / 5 := by
  decide +kernel

/-- The row of gradient scales used for the last 128 rows of block `i`. -/
theorem chunk1 : ∀ i : Fin 125,
    (Scalar.divsi (Scalar.addi (Scalar.muli (BitVec.ofNat 32 i.val) 2#32) 1#32) 5#32).toNat = (2 * i.val + 1) / 5 := by
  decide +kernel

/-- A load of one row of the gradient scales, at an index. -/
theorem ld_scale (v : Vec Ideal S50x6144 .f32) (o : Fin 2 → ℕ) (k : Fin 50) (ho : o = ![k.val, 0])
    (inb : ∀ a, o a + S1x6144.size a ≤ S50x6144.size a) (q : Fin 6144) :
    View.ld v (Rect.unit (s := S50x6144) o S1x6144.size inb) (ix2 0 q) = v (ix2 k q) := by
  subst ho
  show v _ = v _
  congr 1
  funext a
  apply Fin.ext
  fin_cases a
  · rfl
  · show 0 + 1 * q.val = q.val; omega

/-- The gradient scale of row `r` of block `i` is that of its vocabulary entry's group of 640. -/
theorem scale_apply (i : grid0.Coords) (x1 : Vec Ideal S50x6144 .f32) (r : Fin 256) (q : Fin 6144) (k : Fin 50)
    (hk : k.val = ((i 0).val * 256 + r.val) / 640) :
    (if r.val < 128 then View.ld x1 (Rect.unit (s := S50x6144) (k0_off1 i 0#32) S1x6144.size (k0_off1_inb i 0)) (ix2 0 q)
      else View.ld x1 (Rect.unit (s := S50x6144) (k0_off1 i 1#32) S1x6144.size (k0_off1_inb i 1)) (ix2 0 q)) = x1 (ix2 k q) := by
  have hr := r.isLt
  split
  · refine ld_scale x1 _ k ?_ _ q
    have h := chunk0 (i 0)
    show ![(Scalar.divsi (Scalar.addi (Scalar.muli (BitVec.ofNat 32 (i 0).val) 2#32) 0#32) 5#32).toNat, 0] = _
    rw [h, show 2 * (i 0).val / 5 = k.val from by omega]
  · refine ld_scale x1 _ k ?_ _ q
    have h := chunk1 (i 0)
    show ![(Scalar.divsi (Scalar.addi (Scalar.muli (BitVec.ofNat 32 (i 0).val) 2#32) 1#32) 5#32).toNat, 0] = _
    rw [h, show (2 * (i 0).val + 1) / 5 = k.val from by omega]

/-- The head part at an index. -/
theorem head_apply (i : grid0.Coords) (x0 : Vec Ideal S6144x256 .fp8e5m2) (x1 : Vec Ideal S50x6144 .f32)
    (x2 : Vec Ideal S1x6144 .f32) (x3 : Vec Ideal S6144x4096 .fp8e4m3) (x6 : Vec Ideal S256x4096 .f32)
    (r : Fin 256) (d : Fin 4096) (k : Fin 50) (hk : k.val = ((i 0).val * 256 + r.val) / 640) :
    mainAt (gtAt x0 (View.ld x1 (Rect.unit (s := S50x6144) (k0_off1 i 0#32) S1x6144.size (k0_off1_inb i 0)))
      (View.ld x1 (Rect.unit (s := S50x6144) (k0_off1 i 1#32) S1x6144.size (k0_off1_inb i 1))) x2) x3 x6 (ix2 r d)
      = (x6 (ix2 r d) + ∑ q : Fin 6144, x0 (ix2 q r) * x1 (ix2 k q) * x2 (ix2 0 q) * x3 (ix2 q d) : EReal) := by
  refine congrArg (fun z => (x6 (ix2 r d) + z : EReal)) (Finset.sum_congr rfl fun q _ => ?_)
  rw [← scale_apply i x1 r q k hk]
  rfl

/-- The whole point at an index, for words `a`, `b` that bound the positions of every id met in the block. -/
theorem outAt_apply (i : grid0.Coords) (a b : BitVec 32) (hw : k0_chk1 a b) (x0 : Vec Ideal S6144x256 .fp8e5m2) (x1 : Vec Ideal S50x6144 .f32)
    (x2 : Vec Ideal S1x6144 .f32) (x3 : Vec Ideal S6144x4096 .fp8e4m3) (x4 : Vec Ideal S1x6144 .f32) (x5 : Vec Ideal S1x6144 .i32)
    (x6 : Vec Ideal S256x4096 .f32) (E : Vec Ideal S6144x4096 .fp8e5m2) (n k : ℕ) (hn : n ≤ 6144) (hk : k ≤ 6144)
    (ha : a = BitVec.ofNat 32 n) (hb : b = BitVec.ofNat 32 k) (r : Fin 256) (d : Fin 4096) (v : Fin 32000)
    (hv : v.val = (i 0).val * 256 + r.val)
    (hs : ∀ p : Fin 6144, BitVec.ofNat 32 v.val = x5 (ix2 0 p) → n ≤ p.val ∧ p.val < k) :
    outAt i a b hw x0 x1 x2 x3 x4 x5 x6 E (ix2 r d)
      = spec (fun q w => x0 (ix2 q r)) (fun q k => x1 (ix2 k q)) (fun q => x2 (ix2 0 q)) (fun q d => x3 (ix2 q d))
          (fun p d => E (ix2 p d)) (fun p => x4 (ix2 0 p)) (fun p => x5 (ix2 0 p)) (fun _ d => x6 (ix2 r d)) v d := by
  subst ha hb
  have hi : (i 0).val < 125 := (i 0).isLt
  obtain ⟨v, hlt⟩ := v
  change v = (i 0).val * 256 + r.val at hv
  subst hv
  unfold outAt spec
  rw [loop_apply (i 0).val n k hi hn hk hw x5 x4 E _ r d hs,
    head_apply i x0 x1 x2 x3 x6 r d ⟨((i 0).val * 256 + r.val) / 640, by have := r.isLt; omega⟩ rfl]

end Cert.KernelIdeal.Gen
end
-- ==== Proof.Ideal.Inputs.lean ====
/- The block of each operand a grid point reads, at an index. -/
module

public import proofs.«01_k».proof.Proof.Ideal.Frame
public import Idealize.ShloMosaic.Lib.Pointwise
public import Idealize.ShloMosaic.Lib.Pointwise.IndexVar

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ)

/-- The coordinate of a grid point is its number. -/
theorem coord_val (t : Fin 125) : (grid0.coords t 0).val = t.val := by
  have h := Pipeline.Grid.coords_val (G := grid0) t (0 : Fin 1) (S := 1) (B := 125) (by decide) (by decide)
  rw [h]
  have := t.isLt
  omega

variable (hO : Ok m)

/-- Block `t` of the gradient: columns from `256 t`. -/
theorem iblk0_apply (c : Dev nD) (t : Fin (cfgM m hO).N) (q : Fin 6144) (r : Fin 256) (v : Fin 32000) (hv : v.val = t.val * 256 + r.val) :
    iblk m hO c 0 t (ix2 q r) = V m c main_v0 (ix2 q v) := by
  have hc := coord_val t
  unfold iblk
  refine (View.read_apply _ _).trans ?_
  show V m c main_v0 _ = V m c main_v0 _
  congr 1
  funext a
  apply Fin.ext
  match a with
  | ⟨0, _⟩ => show 0 * 6144 + 1 * q.val = q.val; omega
  | ⟨1, _⟩ =>
    show (BitVec.ofNat 32 (grid0.coords t 0).val).toNat * 256 + 1 * r.val = v.val
    rw [BitVec.toNat_ofNat, hc]
    have : t.val < 125 := t.isLt
    omega

/-- The gradient scales are read whole. -/
theorem iblk1_eq (c : Dev nD) (t : Fin (cfgM m hO).N) (y : S50x6144.Idx) : iblk m hO c 1 t y = V m c main_v2 y := by
  unfold iblk
  refine (View.read_apply _ _).trans ?_
  show V m c main_v2 _ = V m c main_v2 _
  congr 1
  funext a
  apply Fin.ext
  match a with
  | ⟨0, _⟩ => show 0 * 50 + 1 * (y 0).val = (y 0).val; omega
  | ⟨1, _⟩ => show 0 * 6144 + 1 * (y 1).val = (y 1).val; omega

/-- The activation scales are read whole. -/
theorem iblk2_eq (c : Dev nD) (t : Fin (cfgM m hO).N) (y : S1x6144.Idx) : iblk m hO c 2 t y = V m c main_v3 y := by
  unfold iblk
  refine (View.read_apply _ _).trans ?_
  show V m c main_v3 _ = V m c main_v3 _
  congr 1
  funext a
  apply Fin.ext
  match a with
  | ⟨0, _⟩ => show 0 * 1 + 1 * (y 0).val = (y 0).val; omega
  | ⟨1, _⟩ => show 0 * 6144 + 1 * (y 1).val = (y 1).val; omega

/-- The activations are read whole. -/
theorem iblk3_eq (c : Dev nD) (t : Fin (cfgM m hO).N) (y : S6144x4096.Idx) : iblk m hO c 3 t y = V m c main_v4 y := by
  unfold iblk
  refine (View.read_apply _ _).trans ?_
  show V m c main_v4 _ = V m c main_v4 _
  congr 1
  funext a
  apply Fin.ext
  match a with
  | ⟨0, _⟩ => show 0 * 6144 + 1 * (y 0).val = (y 0).val; omega
  | ⟨1, _⟩ => show 0 * 4096 + 1 * (y 1).val = (y 1).val; omega

/-- The embedding scales are read whole. -/
theorem iblk4_eq (c : Dev nD) (t : Fin (cfgM m hO).N) (y : S1x6144.Idx) : iblk m hO c 4 t y = V m c main_v15 y := by
  unfold iblk
  refine (View.read_apply _ _).trans ?_
  show V m c main_v15 _ = V m c main_v15 _
  congr 1
  funext a
  apply Fin.ext
  match a with
  | ⟨0, _⟩ => show 0 * 1 + 1 * (y 0).val = (y 0).val; omega
  | ⟨1, _⟩ => show 0 * 6144 + 1 * (y 1).val = (y 1).val; omega

/-- The ids are read whole. -/
theorem iblk5_eq (c : Dev nD) (t : Fin (cfgM m hO).N) (y : S1x6144.Idx) : iblk m hO c 5 t y = V m c main_v16 y := by
  unfold iblk
  refine (View.read_apply _ _).trans ?_
  show V m c main_v16 _ = V m c main_v16 _
  congr 1
  funext a
  apply Fin.ext
  match a with
  | ⟨0, _⟩ => show 0 * 1 + 1 * (y 0).val = (y 0).val; omega
  | ⟨1, _⟩ => show 0 * 6144 + 1 * (y 1).val = (y 1).val; omega

/-- Block `t` of the accumulator: rows from `256 t`. -/
theorem iblk6_apply (c : Dev nD) (t : Fin (cfgM m hO).N) (r : Fin 256) (d : Fin 4096) (v : Fin 32000) (hv : v.val = t.val * 256 + r.val) :
    iblk m hO c 6 t (ix2 r d) = V m c main_arg7 (ix2 v d) := by
  have hc := coord_val t
  unfold iblk
  refine (View.read_apply _ _).trans ?_
  show V m c main_arg7 _ = V m c main_arg7 _
  congr 1
  funext a
  apply Fin.ext
  match a with
  | ⟨0, _⟩ =>
    show (BitVec.ofNat 32 (grid0.coords t 0).val).toNat * 256 + 1 * r.val = v.val
    rw [BitVec.toNat_ofNat, hc]
    have : t.val < 125 := t.isLt
    omega
  | ⟨1, _⟩ => show 0 * 4096 + 1 * d.val = d.val; omega

end Cert.KernelIdeal.Gen
end
-- ==== Proof.Ideal.Entry.lean ====
/- What each operand holds when the kernel starts, at an index, in terms of the program's arguments. -/
module

public import proofs.«01_k».proof.Proof.Ideal.Runs
public import proofs.«01_k».proof.Proof.Spec
public import Idealize.ShloMosaic.Lib.Claim
public import Idealize.ShloMosaic.Lib.Pointwise
public import Idealize.ShloMosaic.Lib.Pointwise.IndexVar

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ)

/-- The gradient, flattened over batches. -/
theorem v0_apply (c : Dev nD) (q : Fin 6144) (v : Fin 32000) :
    V m c main_v0 (ix2 q v) = m ((c : Thread nD τ).loc main_arg0) (ix3 (batch q) (place q) v) := by
  entry_read
  unfold batch place
  pointwise

/-- The gradient scales, flattened over batches and transposed. -/
theorem v2_apply (c : Dev nD) (k : Fin 50) (q : Fin 6144) :
    V m c main_v2 (ix2 k q) = m ((c : Thread nD τ).loc main_arg1) (ix3 (batch q) (place q) k) := by
  entry_read
  unfold batch place
  pointwise

/-- The activation scales as one row. -/
theorem v3_apply (c : Dev nD) (q : Fin 6144) :
    V m c main_v3 (ix2 0 q) = m ((c : Thread nD τ).loc main_arg3) (ix2 (batch q) (place q)) := by
  entry_read
  unfold batch place
  pointwise

/-- The activations, flattened over batches. -/
theorem v4_apply (c : Dev nD) (q : Fin 6144) (d : Fin 4096) :
    V m c main_v4 (ix2 q d) = m ((c : Thread nD τ).loc main_arg2) (ix3 (batch q) (place q) d) := by
  entry_read
  unfold batch place
  pointwise

/-- The embedding scales as one row. -/
theorem v15_apply (c : Dev nD) (p : Fin 6144) :
    V m c main_v15 (ix2 0 p) = m ((c : Thread nD τ).loc main_arg5) (ix1 p) := by
  entry_read
  pointwise

/-- The ids as one row. -/
theorem v16_apply (c : Dev nD) (p : Fin 6144) :
    V m c main_v16 (ix2 0 p) = m ((c : Thread nD τ).loc main_arg6) (ix1 p) := by
  entry_read
  pointwise

end Cert.KernelIdeal.Gen
end
-- ==== Proof.Sorted.lean ====
/- What the precondition says of the ids, and what it gives: the positions of an id lie between the counts at the two
   edges of the block the id falls in. -/
module

public import proofs.«01_k».proof.Proof.Table
public import proofs.«01_k».proof.Proof.Gen.Pre_ids_sorted
public import Idealize.ShloMosaic.Lib.ReduceAll
public import Idealize.ShloMosaic.Lib.Pointwise
public import Idealize.ShloMosaic.Lib.Pointwise.IndexVar

@[expose] public section

set_option maxRecDepth 16384

noncomputable section

namespace Cert.KernelIdeal.Gen

open Idealize.ShloMosaic Idealize.ShloMosaic.TcCoe Idealize.ShloMosaic.Tactic
open Idealize.ShloMosaic.StableHlo.Predicate

/-- The ids ascend: each is at most the next. -/
def Ascending (ids : (⟨1, ![6144]⟩ : Shape).Idx → BitVec 32) : Prop :=
  ∀ p : ℕ, (h : p + 1 < 6144) → (ids (ix1 ⟨p, by omega⟩)).toInt ≤ (ids (ix1 ⟨p + 1, h⟩)).toInt

/-- The precondition says that the ids ascend. -/
theorem ascending_of_pre (x0 x1 x2 x3 x4 x5 ids x7)
    (h : Cert.Pre_ids_sorted.fn (F := Ideal) x0 x1 x2 x3 x4 x5 ids x7 = fun _ => 1#1) : Ascending ids := by
  intro p hp
  have e := congrFun h (fun a => a.elim0)
  unfold Cert.Pre_ids_sorted.fn at e
  dsimp only at e
  haveI : Subsingleton (Cert.Pre_ids_sorted.S_).Idx := ⟨fun a b => funext fun i => i.elim0⟩
  have e' := Host.reduce_andi_all _ _ _ _ _ e (ix1 ⟨p, by omega⟩)
  have e'' := IntOp.cmpi_sle.1 e'
  refine le_trans (le_of_eq ?_) (le_trans e'' (le_of_eq ?_))
  · refine congrArg (fun y => (ids y).toInt) ?_
    funext a; apply Fin.ext; fin_cases a
    show p = 0 + p; omega
  · refine congrArg (fun y => (ids y).toInt) ?_
    funext a; apply Fin.ext; fin_cases a
    show 1 + p = p + 1; omega

/-- Ascending ids are monotone in the position. -/
theorem Ascending.mono {ids : (⟨1, ![6144]⟩ : Shape).Idx → BitVec 32} (h : Ascending ids) (p q : Fin 6144) (hpq : p.val ≤ q.val) :
    (ids (ix1 p)).toInt ≤ (ids (ix1 q)).toInt := by
  obtain ⟨p, hp⟩ := p
  obtain ⟨q, hq⟩ := q
  change p ≤ q at hpq
  induction q, hpq using Nat.le_induction with
  | base => exact le_rfl
  | succ n hn ih => exact le_trans (ih (by omega)) (h n hq)

/-- The count at edge `j` counts the positions whose id reads as less than `256 j`. -/
theorem cnt_eq (ids : (⟨1, ![6144]⟩ : Shape).Idx → BitVec 32) (j : ℕ) (hj : j ≤ 125) :
    cnt ids j = (Finset.univ.filter fun q : Fin 6144 => (ids (ix1 q)).toInt < ((256 * j : ℕ) : Int)).card := by
  have hw : BitVec.ofNat 32 j * 256#32 = BitVec.ofNat 32 (256 * j) := by
    apply BitVec.eq_of_toNat_eq
    simp only [BitVec.toNat_mul, BitVec.toNat_ofNat]
    omega
  unfold cnt
  congr 1
  refine Finset.filter_congr fun q _ => ?_
  rw [hw, IntOp.cmpi_slt, Cert.KernelIdeal.toInt_ofNat_lt _ (by omega)]
  have hi : (Shape.Idx.ofFin q : (⟨1, ![6144]⟩ : Shape).Idx) = ix1 q := by
    funext a; fin_cases a; rfl
  rw [hi]

/-- The positions of an id lie between the counts at the edges of its block. -/
theorem cnt_bounds {ids : (⟨1, ![6144]⟩ : Shape).Idx → BitVec 32} (h : Ascending ids) (i v : ℕ) (hi : i < 125)
    (h0 : 256 * i ≤ v) (h1 : v < 256 * (i + 1)) (p : Fin 6144) (hp : BitVec.ofNat 32 v = ids (ix1 p)) :
    cnt ids i ≤ p.val ∧ p.val < cnt ids (i + 1) := by
  have hv : (ids (ix1 p)).toInt = v := by rw [← hp, Cert.KernelIdeal.toInt_ofNat_lt _ (by omega)]
  constructor
  · rw [cnt_eq ids i (by omega)]
    refine le_trans (Finset.card_le_card (t := Finset.Iio p) ?_) (le_of_eq ?_)
    · intro q hq
      have hq' := (Finset.mem_filter.mp hq).2
      refine Finset.mem_Iio.mpr ?_
      by_contra hn
      have := h.mono p q (not_lt.mp hn)
      omega
    · exact Fin.card_Iio p
  · rw [cnt_eq ids (i + 1) (by omega)]
    refine lt_of_lt_of_le ?_ (Finset.card_le_card (s := Finset.Iic p) ?_)
    · rw [Fin.card_Iic]; omega
    · intro q hq
      have hq' := Finset.mem_Iic.mp hq
      refine Finset.mem_filter.mpr ⟨Finset.mem_univ _, ?_⟩
      have := h.mono q p hq'
      omega

end Cert.KernelIdeal.Gen
end
-- ==== Proof.Ideal.Final.lean ====
/- What the kernel's run leaves in the result array, for ids that ascend. -/
module

public import proofs.«01_k».proof.Proof.Ideal.Value
public import proofs.«01_k».proof.Proof.Ideal.Inputs
public import proofs.«01_k».proof.Proof.Ideal.Entry
public import proofs.«01_k».proof.Proof.Sorted

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (ρ : Dev nD → PrngReg)

/-- The result at an index, from the program's arguments. -/
def valueAt (c : Dev nD) (v : Fin 32000) (d : Fin 4096) : EReal :=
  spec (fun q v => m ((c : Thread nD τ).loc main_arg0) (ix3 (batch q) (place q) v))
    (fun q k => m ((c : Thread nD τ).loc main_arg1) (ix3 (batch q) (place q) k))
    (fun q => m ((c : Thread nD τ).loc main_arg3) (ix2 (batch q) (place q)))
    (fun q d => m ((c : Thread nD τ).loc main_arg2) (ix3 (batch q) (place q) d))
    (fun p d => m ((c : Thread nD τ).loc main_arg4) (ix2 p d))
    (fun p => m ((c : Thread nD τ).loc main_arg5) (ix1 p))
    (fun p => m ((c : Thread nD τ).loc main_arg6) (ix1 p))
    (fun v d => m ((c : Thread nD τ).loc main_arg7) (ix2 v d)) v d

/-- The result array. -/
def result (c : Dev nD) : Buf (Elt Ideal) ((c : Thread nD τ).loc main_v17) :=
  fun i : S32000x4096.Idx => valueAt m c (i 0) (i 1)

/-- The embedding gradients the kernel copies from are the argument. -/
theorem emb_read (c : Dev nD) (p : Fin 6144) (d : Fin 4096) :
    ((Memref.whole main_arg4).view.read (Elt Ideal) (V m c main_arg4) : Vec Ideal S6144x4096 .fp8e5m2) (ix2 p d)
      = m ((c : Thread nD τ).loc main_arg4) (ix2 p d) := by
  rw [V_main_arg4]
  rfl

/-- What point `t` leaves in its block, at an index. -/
theorem blkOut_apply (c : Dev nD) (h : Ascending (m ((c : Thread nD τ).loc main_arg6)))
    (t : Fin (cfgM m (okT m)).N) (r : Fin 256) (d : Fin 4096) (v : Fin 32000) (hv : v.val = t.val * 256 + r.val) :
    blkOut m (okT m) (hypsT m) c t (ix2 r d) = valueAt m c v d := by
  obtain rfl : c = 0 := Subsingleton.elim _ _
  have hc : (grid0.coords t 0).val = t.val := coord_val t
  have ht : t.val < 125 := t.isLt
  have hr := r.isLt
  refine (outAt_apply (grid0.coords t) _ _ _ _ _ _ _ _ _ _ _ _ _ (cnt_le _ _) (cnt_le _ _) (word2 m (grid0.coords t) _)
    (word3 m (grid0.coords t) _) r d v (by rw [hc]; exact hv) ?_).trans ?_
  · intro p hp
    have hp' := hp.trans ((iblk5_eq m (okT m) 0 t (ix2 0 p)).trans (v16_apply m 0 p))
    rw [hc]
    exact cnt_bounds h t.val v.val ht (by omega) (by omega) p hp'
  · exact spec_congr (fun q => (iblk0_apply m (okT m) 0 t q r v hv).trans (v0_apply m 0 q v))
      (fun q k => (iblk1_eq m (okT m) 0 t (ix2 k q)).trans (v2_apply m 0 k q))
      (fun q => (iblk2_eq m (okT m) 0 t (ix2 0 q)).trans (v3_apply m 0 q))
      (fun q d => (iblk3_eq m (okT m) 0 t (ix2 q d)).trans (v4_apply m 0 q d))
      (fun p d => emb_read m 0 p d)
      (fun p => (iblk4_eq m (okT m) 0 t (ix2 0 p)).trans (v15_apply m 0 p))
      (fun p => (iblk5_eq m (okT m) 0 t (ix2 0 p)).trans (v16_apply m 0 p))
      ((iblk6_apply m (okT m) 0 t r d v hv).trans (congrFun (V_main_arg7 m 0) (ix2 v d)))

/-- What point `t` writes back is block `t` of the result array. -/
theorem flushed_eq (c : Dev nD) (h : Ascending (m ((c : Thread nD τ).loc main_arg6))) (t : Fin (cfgM m (okT m)).N) :
    (dats m (okT m) (hypsT m) 0 c).flushed 7 t = (((cfgM m (okT m)).win 7).blk t).view.read (Elt Ideal) (result m c) := by
  show ((cfgM m (okT m)).win 7).cut (grid0.coords t) ((dats m (okT m) (hypsT m) 0 c).after 7 t) = _
  rw [after0_7]
  have hc : (grid0.coords t 0).val = t.val := coord_val t
  have ht : t.val < 125 := t.isLt
  refine funext fun (y : S256x4096.Idx) => ?_
  have hy0 : (y 0).val < 256 := (y 0).isLt
  have hv : t.val * 256 + (y 0).val < 32000 := by omega
  have hy : (ix2 (y 0) (y 1) : S256x4096.Idx) = y := funext fun a => match a with
    | ⟨0, _⟩ => rfl
    | ⟨1, _⟩ => rfl
  have e := blkOut_apply m c h t (y 0) (y 1) ⟨t.val * 256 + (y 0).val, hv⟩ rfl
  rw [hy] at e
  refine Eq.trans e (Eq.trans ?_ (View.read_apply _ _).symm)
  refine congrArg₂ (valueAt m c) (Fin.ext ?_) (Fin.ext ?_)
  · show t.val * 256 + (y 0).val = (BitVec.ofNat 32 (grid0.coords t 0).val).toNat * 256 + 1 * (y 0).val
    rw [BitVec.toNat_ofNat, hc]
    omega
  · show (y 1).val = 0 * 4096 + 1 * (y 1).val
    omega

/-- The blocks tile the result array. -/
theorem cover (i : S32000x4096.Idx) :
    ∃ t : Fin (cfgM m (okT m)).N, ((cfgM m (okT m)).win 7).flush t = true ∧ i ∈ (((cfgM m (okT m)).win 7).blk t).view.set := by
  have h0 : (i 0).val < 32000 := (i 0).isLt
  have h1 : (i 1).val < 4096 := (i 1).isLt
  have ht : (i 0).val / 256 < 125 := by omega
  have hc := coord_val ⟨(i 0).val / 256, ht⟩
  dsimp only at hc
  refine ⟨(⟨(i 0).val / 256, ht⟩ : Fin 125), flush0_7 _ _, ?_⟩
  refine (congrArg (fun X => i ∈ X) (View.set_slice_whole main_v17 _)).mpr ?_
  refine Rect.mem_set_unit.mpr ?_
  intro a
  match a with
  | ⟨0, _⟩ =>
    show (BitVec.ofNat 32 (grid0.coords (⟨(i 0).val / 256, ht⟩ : Fin 125) 0).val).toNat * 256 ≤ (i 0 : Nat)
      ∧ (i 0 : Nat) < (BitVec.ofNat 32 (grid0.coords (⟨(i 0).val / 256, ht⟩ : Fin 125) 0).val).toNat * 256 + 256
    rw [BitVec.toNat_ofNat, hc]
    omega
  | ⟨1, _⟩ =>
    show 0 * 4096 ≤ (i 1 : Nat) ∧ (i 1 : Nat) < 0 * 4096 + 4096
    omega

/-- At the end the result array is `result`. -/
theorem final (c : Dev nD) (h : Ascending (m ((c : Thread nD τ).loc main_arg6))) :
    (dats m (okT m) (hypsT m) 0 c).arrAt 7 (cfgM m (okT m)).N = result m c :=
  (dats m (okT m) (hypsT m) 0 c).arrAt_eq_of_cover 7 (result m c) (fun t _ => flushed_eq m c h t) (cover m)

/-- The run: every execution ends with the result array at `result` and the arguments as they were. -/
theorem run (h : ∀ c : Dev nD, Ascending (m ((c : Thread nD τ).loc main_arg6))) :
    θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ hh c => ⟨((hh.1 c).1 7).trans (final m c (h c)), hh.2 c⟩)
    (θ_run_and (run_main m ρ (okT m) (hypsT m)) (unchanged m ρ (okT m) (hypsT m)))

end Cert.KernelIdeal.Gen
end
-- ==== Proof.Ref.Wide.lean ====
/- What the reference's one kernel leaves: the three float8 arrays in wider formats, which over the extended reals are the
   arrays themselves. -/
module

public import proofs.«01_k».proof.Proof.Gen.ReferenceIdeal.Frame
public import Idealize.ShloMosaic.Lib.Pipeline.Value
public import Idealize.ShloMosaic.PureOps.Ideal

@[expose] public section

set_option maxRecDepth 16384

noncomputable section

namespace Cert.ReferenceIdeal.Gen

open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The offsets of a whole block of rank three are zero. -/
theorem zero3 : (![0, 0, 0] : Fin 3 → ℕ) = fun _ => 0 := by
  funext a; fin_cases a <;> rfl

/-- The offsets of a whole block of rank two are zero. -/
theorem zero2 : (![0, 0] : Fin 2 → ℕ) = fun _ => 0 := by
  funext a; fin_cases a <;> rfl

/-- The first output block is the first input block. -/
theorem out3_eq (x0 : Vec Ideal S2x3072x32000 .fp8e5m2) (x1 : Vec Ideal S2x3072x4096 .fp8e4m3) (x2 : Vec Ideal S6144x4096 .fp8e5m2) :
    out0_3 (F := Ideal) x0 x1 x2 = fun i => x0 i := by
  unfold out0_3
  rw [View.canon_unit_zero zero3, View.ld_unit_zero zero3]
  rfl

/-- The second output block is the second input block. -/
theorem out4_eq (x0 : Vec Ideal S2x3072x32000 .fp8e5m2) (x1 : Vec Ideal S2x3072x4096 .fp8e4m3) (x2 : Vec Ideal S6144x4096 .fp8e5m2) :
    out0_4 (F := Ideal) x0 x1 x2 = fun i => x1 i := by
  unfold out0_4
  rw [View.canon_unit_zero zero3, View.ld_unit_zero zero3]
  rfl

/-- The third output block is the third input block. -/
theorem out5_eq (x0 : Vec Ideal S2x3072x32000 .fp8e5m2) (x1 : Vec Ideal S2x3072x4096 .fp8e4m3) (x2 : Vec Ideal S6144x4096 .fp8e5m2) :
    out0_5 (F := Ideal) x0 x1 x2 = fun i => x2 i := by
  unfold out0_5
  rw [View.canon_unit_zero zero2, View.ld_unit_zero zero2]
  rfl

/-- The first input block is the whole array. -/
theorem blk0_eq (c : Dev nD) (t : Fin cfg0.N) : (iblk m c 0 t : Vec Ideal S2x3072x32000 .fp8e5m2) = m ((c : Thread nD τ).loc main_arg0) := by
  unfold iblk
  have hz : (fun a => win0_0.index t a * main_arg0.ty.shape.size a) = fun _ => 0 := funext fun a => by
    obtain rfl := fin_N0 t
    fin_cases a <;> decide
  exact Memref.read_access_unit_zero (Elt Ideal) main_arg0 hz (fun a => by rw [congrFun hz a]; simp) _

/-- The second input block is the whole array. -/
theorem blk1_eq (c : Dev nD) (t : Fin cfg0.N) : (iblk m c 1 t : Vec Ideal S2x3072x4096 .fp8e4m3) = m ((c : Thread nD τ).loc main_arg2) := by
  unfold iblk
  have hz : (fun a => win0_1.index t a * main_arg2.ty.shape.size a) = fun _ => 0 := funext fun a => by
    obtain rfl := fin_N0 t
    fin_cases a <;> decide
  exact Memref.read_access_unit_zero (Elt Ideal) main_arg2 hz (fun a => by rw [congrFun hz a]; simp) _

/-- The third input block is the whole array. -/
theorem blk2_eq (c : Dev nD) (t : Fin cfg0.N) : (iblk m c 2 t : Vec Ideal S6144x4096 .fp8e5m2) = m ((c : Thread nD τ).loc main_arg4) := by
  unfold iblk
  have hz : (fun a => win0_2.index t a * main_arg4.ty.shape.size a) = fun _ => 0 := funext fun a => by
    obtain rfl := fin_N0 t
    fin_cases a <;> decide
  exact Memref.read_access_unit_zero (Elt Ideal) main_arg4 hz (fun a => by rw [congrFun hz a]; simp) _

/-- The widened gradient array. -/
def wide0 (c : Dev nD) : main_v0_0.ty.Contents (Elt Ideal) :=
  fun i : S2x3072x32000.Idx => (m ((c : Thread nD τ).loc main_arg0) : Vec Ideal S2x3072x32000 .fp8e5m2) i

/-- The widened activation array. -/
def wide1 (c : Dev nD) : main_v0_1.ty.Contents (Elt Ideal) :=
  fun i : S2x3072x4096.Idx => (m ((c : Thread nD τ).loc main_arg2) : Vec Ideal S2x3072x4096 .fp8e4m3) i

/-- The widened array of embedding gradients. -/
def wide2 (c : Dev nD) : main_v0_2.ty.Contents (Elt Ideal) :=
  fun i : S6144x4096.Idx => (m ((c : Thread nD τ).loc main_arg4) : Vec Ideal S6144x4096 .fp8e5m2) i

/-- The only point writes the whole of the first output. -/
theorem flushed3 (c : Dev nD) (t : Fin cfg0.N) (hf : (cfg0.win 3).flush t = true) :
    (dats m 0 c).flushed 3 t = ((cfg0.win 3).blk t).view.read (Elt Ideal) (wide0 m c) := by
  show (cfg0.win 3).cut (grid0.coords t) ((dats m 0 c).after 3 t) = _
  rw [after0_3, out3_eq, blk0_eq]
  have hz : (fun a => win0_3.index t a * main_v0_0.ty.shape.size a) = fun _ => 0 := funext fun a => by
    obtain rfl := fin_N0 t
    fin_cases a <;> decide
  exact (Memref.read_access_unit_zero (Elt Ideal) main_v0_0 hz (fun a => by rw [congrFun hz a]; simp) (wide0 m c)).symm

/-- The only point writes the whole of the second output. -/
theorem flushed4 (c : Dev nD) (t : Fin cfg0.N) (hf : (cfg0.win 4).flush t = true) :
    (dats m 0 c).flushed 4 t = ((cfg0.win 4).blk t).view.read (Elt Ideal) (wide1 m c) := by
  show (cfg0.win 4).cut (grid0.coords t) ((dats m 0 c).after 4 t) = _
  rw [after0_4, out4_eq, blk1_eq]
  have hz : (fun a => win0_4.index t a * main_v0_1.ty.shape.size a) = fun _ => 0 := funext fun a => by
    obtain rfl := fin_N0 t
    fin_cases a <;> decide
  exact (Memref.read_access_unit_zero (Elt Ideal) main_v0_1 hz (fun a => by rw [congrFun hz a]; simp) (wide1 m c)).symm

/-- The only point writes the whole of the third output. -/
theorem flushed5 (c : Dev nD) (t : Fin cfg0.N) (hf : (cfg0.win 5).flush t = true) :
    (dats m 0 c).flushed 5 t = ((cfg0.win 5).blk t).view.read (Elt Ideal) (wide2 m c) := by
  show (cfg0.win 5).cut (grid0.coords t) ((dats m 0 c).after 5 t) = _
  rw [after0_5, out5_eq, blk2_eq]
  have hz : (fun a => win0_5.index t a * main_v0_2.ty.shape.size a) = fun _ => 0 := funext fun a => by
    obtain rfl := fin_N0 t
    fin_cases a <;> decide
  exact (Memref.read_access_unit_zero (Elt Ideal) main_v0_2 hz (fun a => by rw [congrFun hz a]; simp) (wide2 m c)).symm

/-- The first output array ends holding the gradient array. -/
theorem final3 (c : Dev nD) : (dats m 0 c).arrAt 3 cfg0.N = wide0 m c :=
  (dats m 0 c).arrAt_eq_of_cover 3 (wide0 m c) (flushed3 m c) fun i =>
    ⟨t0_0, flush0_3 t0_0, by
      show i ∈ ((View.whole main_v0_0).slice (win0_3.rect t0_0)).set
      rw [View.set_slice_whole, Rect.mem_set_unit]
      intro a
      have ha := (i a).isLt
      have h0 : win0_3.index t0_0 a * win0_3.size a = 0 := by fin_cases a <;> decide +kernel
      show win0_3.index t0_0 a * win0_3.size a ≤ (i a : Nat) ∧ (i a : Nat) < win0_3.index t0_0 a * win0_3.size a + win0_3.xsize (grid0.coords t0_0) a
      have hx : win0_3.xsize (grid0.coords t0_0) a = main_v0_0.ty.shape.size a := by fin_cases a <;> decide +kernel
      rw [h0, hx]
      exact ⟨Nat.zero_le _, by rw [Nat.zero_add]; exact ha⟩⟩

/-- The second output array ends holding the activation array. -/
theorem final4 (c : Dev nD) : (dats m 0 c).arrAt 4 cfg0.N = wide1 m c :=
  (dats m 0 c).arrAt_eq_of_cover 4 (wide1 m c) (flushed4 m c) fun i =>
    ⟨t0_0, flush0_4 t0_0, by
      show i ∈ ((View.whole main_v0_1).slice (win0_4.rect t0_0)).set
      rw [View.set_slice_whole, Rect.mem_set_unit]
      intro a
      have ha := (i a).isLt
      have h0 : win0_4.index t0_0 a * win0_4.size a = 0 := by fin_cases a <;> decide +kernel
      show win0_4.index t0_0 a * win0_4.size a ≤ (i a : Nat) ∧ (i a : Nat) < win0_4.index t0_0 a * win0_4.size a + win0_4.xsize (grid0.coords t0_0) a
      have hx : win0_4.xsize (grid0.coords t0_0) a = main_v0_1.ty.shape.size a := by fin_cases a <;> decide +kernel
      rw [h0, hx]
      exact ⟨Nat.zero_le _, by rw [Nat.zero_add]; exact ha⟩⟩

/-- The third output array ends holding the embedding gradients. -/
theorem final5 (c : Dev nD) : (dats m 0 c).arrAt 5 cfg0.N = wide2 m c :=
  (dats m 0 c).arrAt_eq_of_cover 5 (wide2 m c) (flushed5 m c) fun i =>
    ⟨t0_0, flush0_5 t0_0, by
      show i ∈ ((View.whole main_v0_2).slice (win0_5.rect t0_0)).set
      rw [View.set_slice_whole, Rect.mem_set_unit]
      intro a
      have ha := (i a).isLt
      have h0 : win0_5.index t0_0 a * win0_5.size a = 0 := by fin_cases a <;> decide +kernel
      show win0_5.index t0_0 a * win0_5.size a ≤ (i a : Nat) ∧ (i a : Nat) < win0_5.index t0_0 a * win0_5.size a + win0_5.xsize (grid0.coords t0_0) a
      have hx : win0_5.xsize (grid0.coords t0_0) a = main_v0_2.ty.shape.size a := by fin_cases a <;> decide +kernel
      rw [h0, hx]
      exact ⟨Nat.zero_le _, by rw [Nat.zero_add]; exact ha⟩⟩

end Cert.ReferenceIdeal.Gen
end
-- ==== Proof.Ref.Tail.lean ====
/- What the reference computes on the widened arrays, as one function of them and of the other arguments. -/
module

public import proofs.«01_k».proof.Proof.Ref.Wide
public import Idealize.ShloMosaic.Lib.Claim

@[expose] public section

set_option maxRecDepth 16384

noncomputable section

namespace Cert.ReferenceIdeal.Gen

open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The gradients times their scales, one scale per token and chunk of 640 vocabulary entries. -/
def gradScaled (g : Vec Ideal S2x3072x32000 .bf16) (s : Vec Ideal S2x3072x50 .f32) : Vec Ideal S2x3072x32000 .bf16 :=
  shapeCast S2x3072x32000
    (mulf (F := Ideal) (s := S2x3072x50x640) (φ := .bf16) (shapeCast S2x3072x50x640 g shapeCasts_S2x3072x32000_S2x3072x50x640)
      (broadcastInDim S2x3072x50x640 ![0, 1, 2, 3] bcast_S2x3072x50x1_S2x3072x50x640_0_1_2_3
        (broadcastInDim S2x3072x50x1 ![0, 1, 2] bcast_S2x3072x50_S2x3072x50x1_0_1_2
          (truncf (F := Ideal) (φ := .f32) .bf16 s bitsLt_bf16_f32))))
    shapeCasts_S2x3072x50x640_S2x3072x32000

/-- The activations times their scales, one per token. -/
def actScaled (x : Vec Ideal S2x3072x4096 .bf16) (s : Vec Ideal S2x3072 .f32) : Vec Ideal S2x3072x4096 .bf16 :=
  mulf (F := Ideal) (s := S2x3072x4096) (φ := .bf16) x
    (broadcastInDim S2x3072x4096 ![0, 1, 2] bcast_S2x3072x1_S2x3072x4096_0_1_2
      (broadcastInDim S2x3072x1 ![0, 1] bcast_S2x3072_S2x3072x1_0_1
        (truncf (F := Ideal) (φ := .f32) .bf16 s bitsLt_bf16_f32)))

/-- The embedding gradients times their scales, one per position. -/
def embScaled (e : Vec Ideal S6144x4096 .f32) (s : Vec Ideal S6144 .f32) : Vec Ideal S6144x4096 .f32 :=
  mulf (F := Ideal) (s := S6144x4096) (φ := .f32) e
    (broadcastInDim S6144x4096 ![0, 1] bcast_S6144x1_S6144x4096_0_1
      (broadcastInDim S6144x1 ![0] bcast_S6144_S6144x1_0 s))

/-- The rows summed by their ids. -/
def rowSums (u : Vec Ideal S6144x4096 .f32) (ids : Vec Ideal S6144 .i32) : Vec Ideal S32000x4096 .f32 :=
  Host.scatterAdd (F := Ideal) scatter_S32000x4096_S6144x1_S6144x4096_1_0_0_1
    (broadcastInDim S32000x4096 ![] bcast_S_S32000x4096 (constant (F := Ideal) S_ .f32 0x00000000#32))
    (broadcastInDim S6144x1 ![0] bcast_S6144_S6144x1_0 ids) u

/-- The whole of the reference's arithmetic. -/
def refAt (g : Vec Ideal S2x3072x32000 .bf16) (x : Vec Ideal S2x3072x4096 .bf16) (e : Vec Ideal S6144x4096 .f32)
    (gs : Vec Ideal S2x3072x50 .f32) (xs : Vec Ideal S2x3072 .f32) (es : Vec Ideal S6144 .f32) (ids : Vec Ideal S6144 .i32)
    (acc : Vec Ideal S32000x4096 .f32) : Vec Ideal S32000x4096 .f32 :=
  addf (F := Ideal) (s := S32000x4096) (φ := .f32)
    (addf (F := Ideal) (s := S32000x4096) (φ := .f32) acc
      (Host.dotGeneral (F := Ideal) (φ₁ := .bf16) (φ₂ := .bf16) dot_S2x3072x32000_S2x3072x4096_S32000x4096_01_01_2_2_n_n none (gradScaled g gs) (actScaled x xs)))
    (rowSums (embScaled e es) ids)

set_option maxHeartbeats 1600000 in
/-- The host operations after the kernel leave `refAt` of what they find. -/
theorem tail_eq (σ : Valuation τ sig (Elt Ideal)) :
    StableHlo.after hostOps1 σ (Proc.devRef .tc main_v19)
      = refAt (σ (Proc.devRef .tc main_v0_0)) (σ (Proc.devRef .tc main_v0_1)) (σ (Proc.devRef .tc main_v0_2))
          (σ (Proc.devRef .tc main_arg1)) (σ (Proc.devRef .tc main_arg3)) (σ (Proc.devRef .tc main_arg5))
          (σ (Proc.devRef .tc main_arg6)) (σ (Proc.devRef .tc main_arg7)) := by
  unfold refAt rowSums embScaled actScaled gradScaled
  after_results
  rfl

/-- Equal inputs, equal results. -/
theorem refAt_congr {g g' : Vec Ideal S2x3072x32000 .bf16} {x x' : Vec Ideal S2x3072x4096 .bf16} {e e' : Vec Ideal S6144x4096 .f32}
    {gs gs' : Vec Ideal S2x3072x50 .f32} {xs xs' : Vec Ideal S2x3072 .f32} {es es' : Vec Ideal S6144 .f32}
    {ids ids' : Vec Ideal S6144 .i32} {acc acc' : Vec Ideal S32000x4096 .f32}
    (h0 : g = g') (h1 : x = x') (h2 : e = e') (h3 : gs = gs') (h4 : xs = xs') (h5 : es = es') (h6 : ids = ids')
    (h7 : acc = acc') : refAt g x e gs xs es ids acc = refAt g' x' e' gs' xs' es' ids' acc' := by
  rw [h0, h1, h2, h3, h4, h5, h6, h7]

/-- The result array at the end, from the launch contents. -/
theorem result_eq (c : Dev nD) :
    Pipeline.afterTail₀ cfgs (dats m) 0 (V0 m) [hostOps1] c main_v19
      = refAt (wide0 m c) (wide1 m c) (wide2 m c) (m ((c : Thread nD τ).loc main_arg1)) (m ((c : Thread nD τ).loc main_arg3))
          (m ((c : Thread nD τ).loc main_arg5)) (m ((c : Thread nD τ).loc main_arg6)) (m ((c : Thread nD τ).loc main_arg7)) := by
  unfold Pipeline.afterTail₀
  have hinj : Function.Injective (Pipeline.arrRef spec0) := winFacts0.arr_inj
  have h0 := (Pipeline.withArrays_arr spec0 hinj c (V0 m c) (fun w => (dats m 0 c).arrAt w cfg0.N) 3).trans (final3 m c)
  have h1 := (Pipeline.withArrays_arr spec0 hinj c (V0 m c) (fun w => (dats m 0 c).arrAt w cfg0.N) 4).trans (final4 m c)
  have h2 := (Pipeline.withArrays_arr spec0 hinj c (V0 m c) (fun w => (dats m 0 c).arrAt w cfg0.N) 5).trans (final5 m c)
  have k1 := Pipeline.withArrays_of_ne spec0 c (V0 m c) (fun w => (dats m 0 c).arrAt w cfg0.N) main_arg1 (by decide)
  have k3 := Pipeline.withArrays_of_ne spec0 c (V0 m c) (fun w => (dats m 0 c).arrAt w cfg0.N) main_arg3 (by decide)
  have k5 := Pipeline.withArrays_of_ne spec0 c (V0 m c) (fun w => (dats m 0 c).arrAt w cfg0.N) main_arg5 (by decide)
  have k6 := Pipeline.withArrays_of_ne spec0 c (V0 m c) (fun w => (dats m 0 c).arrAt w cfg0.N) main_arg6 (by decide)
  have k7 := Pipeline.withArrays_of_ne spec0 c (V0 m c) (fun w => (dats m 0 c).arrAt w cfg0.N) main_arg7 (by decide)
  refine (tail_eq _).trans ?_
  exact refAt_congr h0 h1 h2 k1 k3 k5 k6 k7

end Cert.ReferenceIdeal.Gen
end
-- ==== Proof.Ref.Value.lean ====
/- The reference's arithmetic at an index. -/
module

public import proofs.«01_k».proof.Proof.Ref.Tail
public import proofs.«01_k».proof.Proof.Spec
public import Idealize.ShloMosaic.Lib.Pointwise
public import Idealize.ShloMosaic.Lib.Pointwise.IndexVar
public import Idealize.ShloMosaic.PureOps.Ideal.Laws

@[expose] public section

set_option maxRecDepth 16384

noncomputable section

namespace Cert.ReferenceIdeal.Gen

open Idealize.ShloMosaic Idealize.ShloMosaic.TcCoe Idealize.ShloMosaic.Tactic

/-- The scaled gradient at an index. -/
theorem gradScaled_apply (g : Vec Ideal S2x3072x32000 .bf16) (s : Vec Ideal S2x3072x50 .f32) (b : Fin 2) (t : Fin 3072) (v : Fin 32000) :
    gradScaled g s (ix3 b t v) = (g (ix3 b t v) * s (ix3 b t ⟨v.val / 640, by omega⟩) : EReal) := by
  unfold gradScaled
  pointwise

/-- The scaled activation at an index. -/
theorem actScaled_apply (x : Vec Ideal S2x3072x4096 .bf16) (s : Vec Ideal S2x3072 .f32) (b : Fin 2) (t : Fin 3072) (d : Fin 4096) :
    actScaled x s (ix3 b t d) = (x (ix3 b t d) * s (ix2 b t) : EReal) := by
  unfold actScaled
  pointwise

/-- The scaled embedding gradient at an index. -/
theorem embScaled_apply (e : Vec Ideal S6144x4096 .f32) (s : Vec Ideal S6144 .f32) (p : Fin 6144) (d : Fin 4096) :
    embScaled e s (ix2 p d) = (e (ix2 p d) * s (ix1 p) : EReal) := by
  unfold embScaled
  pointwise

/-- The product over batches and places at an index. -/
theorem dot_apply (g : Vec Ideal S2x3072x32000 .bf16) (x : Vec Ideal S2x3072x4096 .bf16) (v : Fin 32000) (d : Fin 4096) :
    Host.dotGeneral (F := Ideal) (φ₁ := .bf16) (φ₂ := .bf16) dot_S2x3072x32000_S2x3072x4096_S32000x4096_01_01_2_2_n_n none g x (ix2 v d)
      = (∑ b : Fin 2, ∑ t : Fin 3072, g (ix3 b t v) * x (ix3 b t d) : EReal) := by
  pointwise

/-- Where an update goes: to the row its id names. -/
theorem resultIdx_iff (ids : IVec S6144x1 32) (j : S6144x4096.Idx) (v : Fin 32000) (d : Fin 4096) :
    scatter_S32000x4096_S6144x1_S6144x4096_1_0_0_1.resultIdx? j ids = some (ix2 v d)
      ↔ BitVec.ofNat 32 v.val = ids (ix2 (j 0) 0) ∧ j 1 = d := by
  have hs : scatter_S32000x4096_S6144x1_S6144x4096_1_0_0_1.start j ids 0 = (ids (ix2 (j 0) 0)).toInt := by
    unfold ScatterDims.start
    rw [dif_pos (by decide)]
    congr 2
    funext a
    fin_cases a <;> rfl
  have hs1 : scatter_S32000x4096_S6144x1_S6144x4096_1_0_0_1.start j ids 1 = 0 := by
    unfold ScatterDims.start
    rw [dif_neg (by decide)]
  have hw : scatter_S32000x4096_S6144x1_S6144x4096_1_0_0_1.window j 0 = 0 := by
    unfold ScatterDims.window
    rw [dif_neg (by decide)]
  have hw1 : scatter_S32000x4096_S6144x1_S6144x4096_1_0_0_1.window j 1 = (j 1).val := by
    unfold ScatterDims.window
    rw [dif_pos (by decide)]
    rfl
  have hv : v.val < 32000 := v.isLt
  have hj : (j 1).val < 4096 := (j 1).isLt
  have he : BitVec.ofNat 32 v.val = ids (ix2 (j 0) 0) ↔ (ids (ix2 (j 0) 0)).toInt = (v.val : Int) := by
    rw [← BitVec.toInt_inj, BitVec.toInt_eq_toNat_of_lt (x := BitVec.ofNat 32 v.val) (by rw [BitVec.toNat_ofNat]; omega),
      BitVec.toNat_ofNat, Nat.mod_eq_of_lt (by omega)]
    exact eq_comm
  rw [he]
  unfold ScatterDims.resultIdx?
  split
  · rename_i h
    rw [Option.some.injEq]
    constructor
    · intro hh
      have e0 := congrArg Fin.val (congrFun hh 0)
      have e1 := congrArg Fin.val (congrFun hh 1)
      have b0 := h 0
      dsimp only at e0 e1
      rw [hs, hw] at e0 b0
      rw [hs1, hw1] at e1
      change _ = v.val at e0
      change _ = d.val at e1
      refine ⟨by omega, Fin.ext (by omega)⟩
    · rintro ⟨hv', rfl⟩
      funext a
      apply Fin.ext
      fin_cases a
      · show (scatter_S32000x4096_S6144x1_S6144x4096_1_0_0_1.start j ids 0 + scatter_S32000x4096_S6144x1_S6144x4096_1_0_0_1.window j 0).toNat = v.val
        rw [hs, hw]; omega
      · show (scatter_S32000x4096_S6144x1_S6144x4096_1_0_0_1.start j ids 1 + scatter_S32000x4096_S6144x1_S6144x4096_1_0_0_1.window j 1).toNat = (j 1).val
        rw [hs1, hw1]; omega
  · rename_i h
    constructor
    · intro hh; exact absurd hh (by simp)
    · rintro ⟨hv', rfl⟩
      refine absurd ?_ h
      intro a
      fin_cases a
      · show 0 ≤ scatter_S32000x4096_S6144x1_S6144x4096_1_0_0_1.start j ids 0 + scatter_S32000x4096_S6144x1_S6144x4096_1_0_0_1.window j 0 ∧ scatter_S32000x4096_S6144x1_S6144x4096_1_0_0_1.start j ids 0 + scatter_S32000x4096_S6144x1_S6144x4096_1_0_0_1.window j 0 < (32000 : ℕ)
        rw [hs, hw]; omega
      · show 0 ≤ scatter_S32000x4096_S6144x1_S6144x4096_1_0_0_1.start j ids 1 + scatter_S32000x4096_S6144x1_S6144x4096_1_0_0_1.window j 1 ∧ scatter_S32000x4096_S6144x1_S6144x4096_1_0_0_1.start j ids 1 + scatter_S32000x4096_S6144x1_S6144x4096_1_0_0_1.window j 1 < (4096 : ℕ)
        rw [hs1, hw1]; omega

/-- The rows summed by their ids, at an index. -/
theorem rowSums_apply (u : Vec Ideal S6144x4096 .f32) (ids : Vec Ideal S6144 .i32) (v : Fin 32000) (d : Fin 4096) :
    rowSums u ids (ix2 v d) = (∑ p : Fin 6144, if BitVec.ofNat 32 v.val = ids (ix1 p) then u (ix2 p d) else 0 : EReal) := by
  have hz : (broadcastInDim S32000x4096 ![] bcast_S_S32000x4096 (constant (F := Ideal) S_ .f32 0x00000000#32) : Vec Ideal S32000x4096 .f32) (ix2 v d) = (0 : EReal) := by
    pointwise
  have hi : ∀ p : Fin 6144, (broadcastInDim S6144x1 ![0] bcast_S6144_S6144x1_0 ids : Vec Ideal S6144x1 .i32) (ix2 p 0) = ids (ix1 p) := by
    intro p
    pointwise
  show (broadcastInDim S32000x4096 ![] bcast_S_S32000x4096 (constant (F := Ideal) S_ .f32 0x00000000#32) : Vec Ideal S32000x4096 .f32) (ix2 v d)
    + ∑ j ∈ Finset.univ.filter (fun j => scatter_S32000x4096_S6144x1_S6144x4096_1_0_0_1.resultIdx? j (broadcastInDim S6144x1 ![0] bcast_S6144_S6144x1_0 ids) = some (ix2 v d)), u j = _
  rw [hz, zero_add, ← Finset.sum_filter]
  refine Finset.sum_bij' (fun j _ => (j 0 : Fin 6144)) (fun p _ => (ix2 p d : S6144x4096.Idx)) ?_ ?_ ?_ ?_ ?_
  · intro j hj
    have := (resultIdx_iff _ j v d).mp (Finset.mem_filter.mp hj).2
    refine Finset.mem_filter.mpr ⟨Finset.mem_univ _, ?_⟩
    rw [this.1]
    exact hi (j 0)
  · intro p hp
    refine Finset.mem_filter.mpr ⟨Finset.mem_univ _, (resultIdx_iff _ _ v d).mpr ⟨?_, rfl⟩⟩
    rw [(Finset.mem_filter.mp hp).2]
    exact (hi p).symm
  · intro j hj
    have := (resultIdx_iff _ j v d).mp (Finset.mem_filter.mp hj).2
    rw [← this.2]
    funext a
    fin_cases a <;> rfl
  · intro p hp
    rfl
  · intro j hj
    have := (resultIdx_iff _ j v d).mp (Finset.mem_filter.mp hj).2
    congr 1
    rw [← this.2]
    funext a
    fin_cases a <;> rfl

/-- The reference's result at an index. -/
theorem refAt_apply (g : Vec Ideal S2x3072x32000 .bf16) (x : Vec Ideal S2x3072x4096 .bf16) (e : Vec Ideal S6144x4096 .f32)
    (gs : Vec Ideal S2x3072x50 .f32) (xs : Vec Ideal S2x3072 .f32) (es : Vec Ideal S6144 .f32) (ids : Vec Ideal S6144 .i32)
    (acc : Vec Ideal S32000x4096 .f32) (v : Fin 32000) (d : Fin 4096) :
    refAt g x e gs xs es ids acc (ix2 v d)
      = spec (fun q v => g (ix3 (batch q) (place q) v)) (fun q k => gs (ix3 (batch q) (place q) k))
          (fun q => xs (ix2 (batch q) (place q))) (fun q d => x (ix3 (batch q) (place q) d)) (fun p d => e (ix2 p d))
          (fun p => es (ix1 p)) (fun p => ids (ix1 p)) (fun v d => acc (ix2 v d)) v d := by
  unfold refAt spec
  show acc (ix2 v d) + Host.dotGeneral (F := Ideal) (φ₁ := .bf16) (φ₂ := .bf16) dot_S2x3072x32000_S2x3072x4096_S32000x4096_01_01_2_2_n_n none (gradScaled g gs) (actScaled x xs) (ix2 v d)
    + rowSums (embScaled e es) ids (ix2 v d) = _
  rw [dot_apply, rowSums_apply, sum_tokens]
  congr 1
  · congr 1
    refine Finset.sum_congr rfl fun q _ => ?_
    rw [gradScaled_apply, actScaled_apply, mul_assoc, mul_assoc, mul_assoc, mul_comm (x _) (xs _)]
  · refine Finset.sum_congr rfl fun p _ => ?_
    rw [embScaled_apply, mul_comm]

end Cert.ReferenceIdeal.Gen
end
-- ==== Proof.Ref.Run.lean ====
/- What the reference's run leaves in the result array. -/
module

public import proofs.«01_k».proof.Proof.Ref.Value

@[expose] public section

set_option maxRecDepth 16384

noncomputable section

namespace Cert.ReferenceIdeal.Gen

open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The result array. -/
def result (c : Dev nD) : Buf (Elt Ideal) ((c : Thread nD τ).loc main_v19) :=
  refAt (wide0 m c) (wide1 m c) (wide2 m c) (m ((c : Thread nD τ).loc main_arg1)) (m ((c : Thread nD τ).loc main_arg3))
    (m ((c : Thread nD τ).loc main_arg5)) (m ((c : Thread nD τ).loc main_arg6)) (m ((c : Thread nD τ).loc main_arg7))

/-- THE RUN: every execution ends with the result array at `result` and the arguments as they were. -/
theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ hh c => ⟨((hh.1 c).2 main_v19 (Pipeline.mem_restRefs_of main_v19 (by decide) (by decide))).trans (result_eq m c), hh.2 c⟩)
    (θ_run_and (run_main m ρ) (unchanged m ρ))

end Cert.ReferenceIdeal.Gen
end
-- ==== Proof.Equation.lean ====
/- The equation: from equal arguments the kernel and the reference leave equal result arrays. -/
module

public import proofs.«01_k».proof.Proof.Ideal.Final
public import proofs.«01_k».proof.Proof.Ref.Run

@[expose] public section

set_option maxRecDepth 16384

noncomputable section

namespace Cert

open Idealize.ShloMosaic Idealize.ShloMosaic.TcCoe

/-- The reference's result array is the kernel's. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev 1)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    ReferenceIdeal.Gen.result m' c = KernelIdeal.Gen.result m c := by
  refine funext fun (i : (⟨2, ![32000, 4096]⟩ : Shape).Idx) => ?_
  have hi : (ix2 (i 0) (i 1) : (⟨2, ![32000, 4096]⟩ : Shape).Idx) = i := funext fun a => match a with
    | ⟨0, _⟩ => rfl
    | ⟨1, _⟩ => rfl
  have e := ReferenceIdeal.Gen.refAt_apply (ReferenceIdeal.Gen.wide0 m' c) (ReferenceIdeal.Gen.wide1 m' c)
    (ReferenceIdeal.Gen.wide2 m' c) (m' ((c : Thread ReferenceIdeal.nD ReferenceIdeal.τ).loc ReferenceIdeal.main_arg1))
    (m' ((c : Thread ReferenceIdeal.nD ReferenceIdeal.τ).loc ReferenceIdeal.main_arg3))
    (m' ((c : Thread ReferenceIdeal.nD ReferenceIdeal.τ).loc ReferenceIdeal.main_arg5))
    (m' ((c : Thread ReferenceIdeal.nD ReferenceIdeal.τ).loc ReferenceIdeal.main_arg6))
    (m' ((c : Thread ReferenceIdeal.nD ReferenceIdeal.τ).loc ReferenceIdeal.main_arg7)) (i 0) (i 1)
  rw [hi] at e
  refine Eq.trans e ?_
  show _ = KernelIdeal.Gen.valueAt m c (i 0) (i 1)
  unfold KernelIdeal.Gen.valueAt
  refine spec_congr ?_ ?_ ?_ ?_ ?_ ?_ ?_ ?_
  · exact fun q => congrFun h0 (ix3 (batch q) (place q) (i 0))
  · exact fun q k => congrFun h1 (ix3 (batch q) (place q) k)
  · exact fun q => congrFun h3 (ix2 (batch q) (place q))
  · exact fun q d => congrFun h2 (ix3 (batch q) (place q) d)
  · exact fun p d => congrFun h4 (ix2 p d)
  · exact fun p => congrFun h5 (ix1 p)
  · exact fun p => congrFun h6 (ix1 p)
  · exact congrFun h7 (ix2 (i 0) (i 1))

end Cert
end
-- ==== Proof.lean ====
/- The frames of the kernel, of its ideal program and of the reference, and the equation of their results, assembled from
   the modules. -/
module

public import proofs.«01_k».proof.Defs
public import proofs.«01_k».proof.Proof.Bits.Frame
public import proofs.«01_k».proof.Proof.Gen.KernelIdeal
public import proofs.«01_k».proof.Proof.Gen.ReferenceIdeal.Frame
public import proofs.«01_k».proof.Proof.Ideal.Frame
public import proofs.«01_k».proof.Proof.KernelTable
public import proofs.«01_k».proof.Proof.Equation
public import proofs.«01_k».proof.Proof.Gen.Pre_ids_sorted
public import Idealize.ShloMosaic.Adequacy
public import Idealize.ShloMosaic.Init

@[expose] public section

noncomputable section

namespace Cert.Proof

open Idealize.ShloMosaic Idealize.SL.Sem

/-- The kernel and the reference agree on every input whose ids ascend. -/
theorem algebraic : Cert.algebraic_KernelIdeal_ReferenceIdeal_pre_ids_sorted (hKernelIdeal := Cert.KernelIdeal.Gen.facts)
    (hReferenceIdeal := Cert.ReferenceIdeal.Gen.facts) (hPre_ids_sorted := Cert.Pre_ids_sorted.Gen.facts) := by
  intro m g m' g' hpre heq
  refine ⟨fun c => Cert.KernelIdeal.Gen.result m c,
    Cert.KernelIdeal.Gen.run m g fun c => Cert.KernelIdeal.Gen.ascending_of_pre _ _ _ _ _ _ _ _ (hpre c), ?_⟩
  refine (θ_run _ _ _).mono (fun r h c => ?_) (Cert.ReferenceIdeal.Gen.run m' g')
  obtain ⟨h0, h1, h2, h3, h4, h5, h6, h7⟩ := heq c
  exact ⟨(h c).1.trans (Cert.results_eq m m' c h0 h1 h2 h3 h4 h5 h6 h7), (h c).2⟩

/-- Everything the certificate claims. -/
theorem claim : Cert.Claim :=
  ⟨Cert.Kernel.Gen.facts, Cert.KernelIdeal.Gen.facts, Cert.ReferenceIdeal.Gen.facts, Cert.Pre_ids_sorted.Gen.facts,
    fun m ρ _ => Cert.Kernel.Gen.frame m ρ (Cert.Kernel.Gen.okT m) (Cert.Kernel.Gen.hypsT m),
    fun m ρ _ => Cert.KernelIdeal.Gen.frame m ρ (Cert.KernelIdeal.Gen.okT m) (Cert.KernelIdeal.Gen.hypsT m),
    fun m ρ _ => Cert.KernelIdeal.Gen.frame m ρ (Cert.KernelIdeal.Gen.okT m) (Cert.KernelIdeal.Gen.hypsT m),
    fun m ρ _ => Cert.ReferenceIdeal.Gen.frame m ρ, fun m ρ _ => Cert.ReferenceIdeal.Gen.frame m ρ, trivial, algebraic⟩

end Cert.Proof

end
